-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x3584 : Shape := ⟨3, ![3, 512, 3584]⟩
abbrev S3x512x1 : Shape := ⟨3, ![3, 512, 1]⟩
abbrev S3584x7168 : Shape := ⟨2, ![3584, 7168]⟩
abbrev S1x7168 : Shape := ⟨2, ![1, 7168]⟩
abbrev S1536x3584 : Shape := ⟨2, ![1536, 3584]⟩
abbrev S1536x1 : Shape := ⟨2, ![1536, 1]⟩
abbrev S1536x7168 : Shape := ⟨2, ![1536, 7168]⟩
abbrev S256x3584 : Shape := ⟨2, ![256, 3584]⟩
abbrev S256x1 : Shape := ⟨2, ![256, 1]⟩
abbrev S3584x1024 : Shape := ⟨2, ![3584, 1024]⟩
abbrev S1x1024 : Shape := ⟨2, ![1, 1024]⟩
abbrev S256x7168 : Shape := ⟨2, ![256, 7168]⟩
abbrev S256x1024 : Shape := ⟨2, ![256, 1024]⟩
abbrev S256 : Shape := ⟨1, ![256]⟩
abbrev S3x512x7168 : Shape := ⟨3, ![3, 512, 7168]⟩

abbrev nBuf : Space → Nat
  | .hbm => 10
  | .vmem => 13
  | .smem => 0
  | _ => 0

abbrev bufTy : (tb : Table) → Fin (tcTables nBuf tb) → BufTy
  | .hbm, ⟨0, _⟩ => ⟨S3x512x3584, .fp8e4m3⟩
  | .hbm, ⟨1, _⟩ => ⟨S3x512x1, .f32⟩
  | .hbm, ⟨2, _⟩ => ⟨S3584x7168, .fp8e4m3⟩
  | .hbm, ⟨3, _⟩ => ⟨S1x7168, .f32⟩
  | .hbm, ⟨4, _⟩ => ⟨S1536x3584, .fp8e4m3⟩
  | .hbm, ⟨5, _⟩ => ⟨S1536x1, .f32⟩
  | .hbm, ⟨6, _⟩ => ⟨S1536x1, .f32⟩
  | .hbm, ⟨7, _⟩ => ⟨S1536x7168, .fp8e4m3⟩
  | .hbm, ⟨8, _⟩ => ⟨S3x512x1, .f32⟩
  | .hbm, ⟨9, _⟩ => ⟨S3x512x7168, .fp8e4m3⟩
  | .local _ .vmem, ⟨0, _⟩ => ⟨S256x3584, .fp8e4m3⟩
  | .local _ .vmem, ⟨1, _⟩ => ⟨S256x3584, .fp8e4m3⟩
  | .local _ .vmem, ⟨2, _⟩ => ⟨S256x1, .f32⟩
  | .local _ .vmem, ⟨3, _⟩ => ⟨S256x1, .f32⟩
  | .local _ .vmem, ⟨4, _⟩ => ⟨S3584x1024, .fp8e4m3⟩
  | .local _ .vmem, ⟨5, _⟩ => ⟨S3584x1024, .fp8e4m3⟩
  | .local _ .vmem, ⟨6, _⟩ => ⟨S1x1024, .f32⟩
  | .local _ .vmem, ⟨7, _⟩ => ⟨S1x1024, .f32⟩
  | .local _ .vmem, ⟨8, _⟩ => ⟨S256x1, .f32⟩
  | .local _ .vmem, ⟨9, _⟩ => ⟨S256x1, .f32⟩
  | .local _ .vmem, ⟨10, _⟩ => ⟨S256x7168, .fp8e4m3⟩
  | .local _ .vmem, ⟨11, _⟩ => ⟨S256x7168, .fp8e4m3⟩
  | .local _ .vmem, ⟨12, _⟩ => ⟨S256x7168, .f32⟩
  | _, _ => ⟨S3x512x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 7], ![false, false]⟩

def k0_off1 (i : grid0.Coords) : Fin 2 → Nat :=
  let c0_7 : Index := 0#32
  let arg1 : BitVec 32 := BitVec.ofNat 32 (i 1).val
  let c1024_i32 : BitVec 32 := 1024#32
  let v11 : BitVec 32 := Scalar.muli arg1 c1024_i32
  let v12 : Index := Scalar.indexCast v11
  ![0, v12.toNat]
def k0_cond1 (i : grid0.Coords) : BitVec 1 :=
  let arg1 : BitVec 32 := BitVec.ofNat 32 (i 1).val
  let c6_i32 : BitVec 32 := 6#32
  let v16 : BitVec 1 := Scalar.cmpi .eq arg1 c6_i32
  let v17 : BitVec 32 := Scalar.extui v16
  let c0_i32 : BitVec 32 := 0#32
  let v18 : BitVec 1 := Scalar.cmpi .ne v17 c0_i32
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3584x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x7168 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S3x512x3584 : Shape := ⟨3, ![3, 512, 3584]⟩
abbrev S3x512x1 : Shape := ⟨3, ![3, 512, 1]⟩
abbrev S3584x7168 : Shape := ⟨2, ![3584, 7168]⟩
abbrev S1x7168 : Shape := ⟨2, ![1, 7168]⟩
abbrev S1536x3584 : Shape := ⟨2, ![1536, 3584]⟩
abbrev S1536x1 : Shape := ⟨2, ![1536, 1]⟩
abbrev S1536x7168 : Shape := ⟨2, ![1536, 7168]⟩
abbrev S1536 : Shape := ⟨1, ![1536]⟩
abbrev S1x254 : Shape := ⟨2, ![1, 254]⟩
abbrev S1536x254 : Shape := ⟨2, ![1536, 254]⟩
abbrev S3x512x7168 : Shape := ⟨3, ![3, 512, 7168]⟩

abbrev nBuf : Space → Nat
  | .hbm => 10
  | .vmem => 6
  | .smem => 0
  | _ => 0

abbrev bufTy : (tb : Table) → Fin (tcTables nBuf tb) → BufTy
  | .hbm, ⟨0, _⟩ => ⟨S3x512x3584, .fp8e4m3⟩
  | .hbm, ⟨1, _⟩ => ⟨S3x512x1, .f32⟩
  | .hbm, ⟨2, _⟩ => ⟨S3584x7168, .fp8e4m3⟩
  | .hbm, ⟨3, _⟩ => ⟨S1x7168, .f32⟩
  | .hbm, ⟨4, _⟩ => ⟨S1536x3584, .fp8e4m3⟩
  | .hbm, ⟨5, _⟩ => ⟨S1536x1, .f32⟩
  | .hbm, ⟨6, _⟩ => ⟨S1536x1, .f32⟩
  | .hbm, ⟨7, _⟩ => ⟨S1536x7168, .fp8e4m3⟩
  | .hbm, ⟨8, _⟩ => ⟨S3x512x1, .f32⟩
  | .hbm, ⟨9, _⟩ => ⟨S3x512x7168, .fp8e4m3⟩
  | .local _ .vmem, ⟨0, _⟩ => ⟨S1536x3584, .fp8e4m3⟩
  | .local _ .vmem, ⟨1, _⟩ => ⟨S1536x1, .f32⟩
  | .local _ .vmem, ⟨2, _⟩ => ⟨S3584x7168, .fp8e4m3⟩
  | .local _ .vmem, ⟨3, _⟩ => ⟨S1x7168, .f32⟩
  | .local _ .vmem, ⟨4, _⟩ => ⟨S1536x1, .f32⟩
  | .local _ .vmem, ⟨5, _⟩ => ⟨S1536x7168, .fp8e4m3⟩
  | _, _ => ⟨S3x512x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Run.lean ====
/- What one grid point of the kernel leaves in its buffers, as values: the tile it computes, the row block of the
   scratch with that tile put in, the scale and the codes of a finished row block; and where the body's one branch
   is taken. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Where the branch is taken -/

/-- The condition of the body's branch, at the grid coordinates `i`. -/
abbrev last (i : grid0.Coords) : Prop := k0_cond1 i = 1#1

/-- The branch is taken at the last column tile of each row block: the points ≡ 6 (mod 7). -/
theorem last_iff : ∀ t : Fin cfg0.N, last (grid0.coords t) ↔ t.val % 7 = 6 :=
  (fun t => by
    have ht : t.val < 42 := Nat.lt_of_lt_of_eq t.isLt N_0
    have e0 : (grid0.coords t 0).val = t.val / 7 % 6 := Pipeline.Grid.coords_val t 0 (by decide) rfl
    have e1 : (grid0.coords t 1).val = t.val / 1 % 7 := Pipeline.Grid.coords_val t 1 (by decide) rfl
    simp only [last, k0_cond1, e0, e1]
    word_cmp
   : ∀ t : Fin grid0.N, last (grid0.coords t) ↔ t.val % 7 = 6)

/-- The tile of point `t` goes to the columns from `1024 * (t % 7)` on. -/
theorem off_eq (t : Fin cfg0.N) : k0_off1 (grid0.coords t) = ![0, 1024 * (t.val % 7)] := by
  rw [k0_off1_eq]
  have e1 : (grid0.coords t 1).val = t.val / 1 % 7 := Pipeline.Grid.coords_val t 1 (by decide) rfl
  rw [e1, Nat.div_one]

/-- Where the branch is not taken the scale's window is idle, -/
theorem idle4 : ∀ t : Fin cfg0.N, ¬last (grid0.coords t) → cfg0.idle 4 (grid0.coords t) = true := by decide +kernel
/-- and not written back; -/
theorem noFlush4 : ∀ t : Fin cfg0.N, ¬last (grid0.coords t) → (cfg0.win 4).flush t = false := by decide +kernel
/-- where it is taken the window is live. -/
theorem live4 : ∀ t : Fin cfg0.N, last (grid0.coords t) → cfg0.idle 4 (grid0.coords t) = false := by decide +kernel
/-- Where the branch is not taken the codes' window is idle, -/
theorem idle5 : ∀ t : Fin cfg0.N, ¬last (grid0.coords t) → cfg0.idle 5 (grid0.coords t) = true := by decide +kernel
/-- and not written back; -/
theorem noFlush5 : ∀ t : Fin cfg0.N, ¬last (grid0.coords t) → (cfg0.win 5).flush t = false := by decide +kernel
/-- where it is taken the window is live. -/
theorem live5 : ∀ t : Fin cfg0.N, last (grid0.coords t) → cfg0.idle 5 (grid0.coords t) = false := by decide +kernel

/-! ## The buffers of a point -/

/-- Each window's staging buffer at point `t`, and that it is a whole buffer. -/
abbrev ms0 (t : Fin cfg0.N) : Memref sig .tc .vmem S256x3584 .fp8e4m3 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S3584x1024 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x7168 .fp8e4m3 := win0_5.stage (cfg0.slots t 5)
abbrev hs5 (t : Fin cfg0.N) : (ms5 t).IsWhole := hstage0_5 ((cfg0.slots t 5).cast nbuf0_5)
/-- The scratch: one row block of the product. -/
abbrev scratch : Memref sig .tc .vmem S256x7168 .f32 := Memref.whole cc0_scratch0

/-! ## The values -/

/-- A row block `Y` with the tile of the four operand blocks put in at the offsets of the coordinates `i`. -/
def withTile (i : grid0.Coords) (x0 : Vec F S256x3584 .fp8e4m3) (x1 : Vec F S256x1 .f32)
    (x2 : Vec F S3584x1024 .fp8e4m3) (x3 : Vec F S1x1024 .f32) (Y : Vec F S256x7168 .f32) : Vec F S256x7168 .f32 :=
  VecWindow.put (s := S256x7168) Y (k0_off1 i) S256x1024.size (k0_pay1 x0 x2 x1 x3)

/-- The exponents of a finished row block `Y`, one per row. -/
def blockExp (Y : Vec F S256x7168 .f32) : IVec S256x1 32 :=
  k0_pay9 (k0_pay4 Y) (k0_pay5 Y) (k0_pay8 (k0_pay5 Y) (k0_pay6 Y) (k0_pay7 Y))

/-- The scales of a finished row block `Y`, one per row. -/
def blockScale (Y : Vec F S256x7168 .f32) : Vec F S256x1 .f32 :=
  k0_pay2 (F := F) (k0_pay10 (k0_pay4 Y) (k0_pay5 Y) (k0_pay8 (k0_pay5 Y) (k0_pay6 Y) (k0_pay7 Y))) k0_pay11

/-- The codes of a finished row block `Y`. -/
def blockCodes (Y : Vec F S256x7168 .f32) : Vec F S256x7168 .fp8e4m3 := k0_pay3 Y (blockExp Y)

end Cert.KernelIdeal.Run

end
-- ==== Proof.Powers.lean ====
/- Powers of two over the extended reals, in the two spellings the programs use: the float whose exponent field is set
   by a shift, and the exponential of an integer. -/
module

public import Idealize.ShloMosaic.PureOps.Ideal
public import Idealize.ShloMosaic.PureOps.Vector

@[expose] public section

noncomputable section

namespace Cert.Quant

open Idealize.ShloMosaic

/-- The value of the float with exponent field `E` and nothing else. -/
def power (E : ℕ) : EReal := if E = 0 then 0 else if E = 255 then ⊤ else ((2 : ℝ) ^ ((E : ℤ) - 127) : ℝ)

/-- The fields of a word that is a shifted exponent. -/
theorem fields : ∀ E : Fin 256, ((BitVec.ofNat 32 E.val <<< 23).extractLsb' 31 1 == 1#1) = false
    ∧ ((BitVec.ofNat 32 E.val <<< 23).extractLsb' 23 8).toNat = E.val
    ∧ ((BitVec.ofNat 32 E.val <<< 23).extractLsb' 0 23).toNat = 0 := by decide +kernel

/-- A word that is a shifted exponent denotes the power of two. -/
theorem ofBits_shift {E : ℕ} (h : E < 256) : Ideal.ofBits .f32 (BitVec.ofNat 32 E <<< 23) = power E := by
  obtain ⟨h1, h2, h3⟩ := fields ⟨E, h⟩
  simp only at h1 h2 h3
  show Ideal.ieee 8 23 (BitVec.ofNat 32 E <<< 23) = power E
  unfold Ideal.ieee power
  simp only [h1, h2, h3, Nat.reduceAdd]
  by_cases a : E = 255
  · subst a; simp
  · by_cases b : E = 0
    · subst b; simp
    · simp only [Nat.reducePow, Nat.reduceSub, a, b, if_false, Bool.false_eq_true]
      refine congrArg Real.toEReal ?_
      have e : ((E : ℤ) - 127) = ((E : ℤ) - (2 ^ (8 - 1) - 1) - ((23 : ℕ) : ℤ)) + 23 := by push_cast; ring
      rw [e, zpow_add₀ (by norm_num)]
      push_cast
      norm_num
      ring

/-- The exponential of an integer is the power of two. -/
theorem exp2_int (b : BitVec 32) (E : ℕ) (hb : b.toInt = (E : ℤ) - 127) (h0 : E ≠ 0) (h1 : E ≠ 255) :
    Ideal.exp2 (((b.toInt : ℝ) : EReal)) = power E := by
  unfold power
  rw [if_neg h0, if_neg h1, hb]
  show ((Real.rpow 2 _ : ℝ) : EReal) = _
  refine congrArg Real.toEReal ?_
  exact Real.rpow_intCast 2 _

/-- A larger exponent field denotes a larger power. -/
theorem power_le {a b : ℕ} (ha : 1 ≤ a) (h : a ≤ b) (hb : b ≤ 254) : power a ≤ power b := by
  unfold power
  rw [if_neg (by omega), if_neg (by omega), if_neg (by omega), if_neg (by omega)]
  exact EReal.coe_le_coe_iff.2 (zpow_le_zpow_right₀ (by norm_num) (by omega))

/-- The largest exponent field denotes infinity. -/
theorem power_top : power 255 = ⊤ := by simp [power]

end Cert.Quant

end
-- ==== Proof.Search.lean ====
/- The exponent field of an extended real, found two ways: by a binary search over the bits of the field, and by counting
   the normal powers of two that do not exceed it. -/
module

public import proofs.«01_k».proof.Proof.Powers
public import Mathlib.Data.Fintype.Card
public import Mathlib.Order.Interval.Finset.Fin

@[expose] public section

noncomputable section

namespace Cert.Quant

open Idealize.ShloMosaic

/-- The exponent field of `v`: 255 of infinity, else how many of the 254 normal powers of two `v` reaches. -/
def field (v : EReal) : ℕ := if v = ⊤ then 255 else (Finset.univ.filter fun k : Fin 254 => power (k.val + 1) ≤ v).card

theorem card_le (v : EReal) : (Finset.univ.filter fun k : Fin 254 => power (k.val + 1) ≤ v).card ≤ 254 :=
  (Finset.card_filter_le _ _).trans (by simp)

/-- The field is a byte. -/
theorem field_lt (v : EReal) : field v < 256 := by
  unfold field
  split
  · omega
  · exact lt_of_le_of_lt (card_le v) (by omega)

theorem card_lt (n : ℕ) (h : n ≤ 254) : (Finset.univ.filter fun k : Fin 254 => k.val < n).card = n := by
  rw [Fin.card_filter_val_lt]
  omega

/-- `v` reaches the `k`-th power exactly when `k` is at most its field. -/
theorem le_field (v : EReal) (k : ℕ) (h1 : 1 ≤ k) (h2 : k ≤ 255) : power k ≤ v ↔ k ≤ field v := by
  unfold field
  by_cases ht : v = ⊤
  · subst ht
    simpa using h2
  · rw [if_neg ht]
    have hc := card_le v
    rcases Nat.eq_or_lt_of_le h2 with rfl | hk
    · rw [power_top, top_le_iff]
      exact ⟨fun h => absurd h ht, fun h => by omega⟩
    · constructor
      · intro h
        rw [← card_lt k (by omega)]
        refine Finset.card_le_card fun j hj => ?_
        rw [Finset.mem_filter] at hj ⊢
        exact ⟨Finset.mem_univ _, (power_le (by omega) (by omega) (by omega)).trans h⟩
      · intro h
        by_contra hn
        have : (Finset.univ.filter fun j : Fin 254 => power (j.val + 1) ≤ v).card ≤ k - 1 := by
          rw [← card_lt (k - 1) (by omega)]
          refine Finset.card_le_card fun j hj => ?_
          rw [Finset.mem_filter] at hj ⊢
          refine ⟨Finset.mem_univ _, ?_⟩
          by_contra hj'
          exact hn ((power_le h1 (by omega) (by omega)).trans hj.2)
        omega

/-- One step of the search: set the bit `b` if `v` reaches the power the new field denotes. -/
def step (v : EReal) (b E : BitVec 32) : BitVec 32 :=
  Scalar.select
    (Ideal.cmp .oge v (Ideal.ofBits .f32 (IntOp.shli .vector (IntOp.addi (IntOp.subi (IntOp.addi E b) 127#32) 127#32) 23#32)))
    (IntOp.addi E b) E

/-- The search over the eight bits of the field. -/
def search (v : EReal) : BitVec 32 :=
  step v 1#32 (step v 2#32 (step v 4#32 (step v 8#32 (step v 16#32 (step v 32#32 (step v 64#32 (step v 128#32 0#32)))))))

/-- A step on numbers. -/
def natStep (g b E : ℕ) : ℕ := if E + b ≤ g then E + b else E

theorem step_eq (v : EReal) (b E : ℕ) (hb : 1 ≤ b) (h : E + b ≤ 255) :
    step v (BitVec.ofNat 32 b) (BitVec.ofNat 32 E) = BitVec.ofNat 32 (natStep (field v) b E) := by
  have a : IntOp.addi (BitVec.ofNat 32 E) (BitVec.ofNat 32 b) = BitVec.ofNat 32 (E + b) := (BitVec.ofNat_add (n := 32) E b).symm
  have s : IntOp.shli .vector (IntOp.addi (IntOp.subi (BitVec.ofNat 32 (E + b)) 127#32) 127#32) 23#32
      = BitVec.ofNat 32 (E + b) <<< 23 := by
    show (if (23#32).toNat < 32 then (BitVec.ofNat 32 (E + b) - 127#32 + 127#32) <<< 23#32 else _) = _
    rw [if_pos (by decide), BitVec.sub_add_cancel]
    rfl
  unfold step natStep
  rw [a, s, ofBits_shift (by omega)]
  show (if BitVec.ofBool (decide (power (E + b) ≤ v)) = 1 then _ else _) = _
  by_cases hc : E + b ≤ field v
  · rw [if_pos hc, decide_eq_true ((le_field v _ (by omega) h).2 hc)]; rfl
  · rw [if_neg hc, decide_eq_false (fun q => hc ((le_field v _ (by omega) h).1 q))]; rfl

theorem natStep_le (g b E : ℕ) : natStep g b E ≤ E + b := by unfold natStep; split <;> omega

/-- The search on numbers finds the number. -/
theorem natSearch : ∀ g : Fin 256, natStep g 1 (natStep g 2 (natStep g 4 (natStep g 8 (natStep g 16 (natStep g 32
    (natStep g 64 (natStep g 128 0))))))) = g.val := by decide +kernel

/-- The search finds the field. -/
theorem search_eq (v : EReal) : search v = BitVec.ofNat 32 (field v) := by
  have l1 := natStep_le (field v) 128 0
  have l2 := natStep_le (field v) 64 (natStep (field v) 128 0)
  have l3 := natStep_le (field v) 32 (natStep (field v) 64 (natStep (field v) 128 0))
  have l4 := natStep_le (field v) 16 (natStep (field v) 32 (natStep (field v) 64 (natStep (field v) 128 0)))
  have l5 := natStep_le (field v) 8 (natStep (field v) 16 (natStep (field v) 32 (natStep (field v) 64
    (natStep (field v) 128 0))))
  have l6 := natStep_le (field v) 4 (natStep (field v) 8 (natStep (field v) 16 (natStep (field v) 32
    (natStep (field v) 64 (natStep (field v) 128 0)))))
  have l7 := natStep_le (field v) 2 (natStep (field v) 4 (natStep (field v) 8 (natStep (field v) 16
    (natStep (field v) 32 (natStep (field v) 64 (natStep (field v) 128 0))))))
  unfold search
  rw [step_eq v 128 0 (by omega) (by omega), step_eq v 64 _ (by omega) (by omega), step_eq v 32 _ (by omega) (by omega),
    step_eq v 16 _ (by omega) (by omega), step_eq v 8 _ (by omega) (by omega), step_eq v 4 _ (by omega) (by omega),
    step_eq v 2 _ (by omega) (by omega), step_eq v 1 _ (by omega) (by omega)]
  exact congrArg (BitVec.ofNat 32) (natSearch ⟨field v, field_lt v⟩)

end Cert.Quant

end
-- ==== Proof.Exponent.lean ====
/- The exponent of a row and the two powers taken of it: what the search and the counting give are equal, and so are the
   powers by a shifted field and by an exponential. -/
module

public import proofs.«01_k».proof.Proof.Search
public import Idealize.ShloMosaic.Lib.WordSum

@[expose] public section

set_option maxRecDepth 16384

noncomputable section

namespace Cert.Quant

open Idealize.ShloMosaic

/-- The exponent the kernel gives a row whose largest magnitude is `a` and whose unrounded scale is `v`. -/
def searchExp (a v : EReal) : BitVec 32 :=
  Scalar.select (Ideal.cmp .oeq a (Ideal.ofBits .f32 0x00000000#32)) 0#32
    (Scalar.select (IntOp.ori (IntOp.cmpi .eq (search v) 0#32) (IntOp.cmpi .eq (search v) 255#32)) 0#32
      (IntOp.subi (search v) 126#32))

/-- The exponent the reference gives it, of a count `n`. -/
def countExp (a v : EReal) (n : BitVec 32) : BitVec 32 :=
  Scalar.select (Ideal.cmp .oeq a (Ideal.ofBits .f32 0x00000000#32)) 0#32
    (Scalar.select (IntOp.ori (IntOp.cmpi .eq n 0#32) (Ideal.cmp .oeq v (Ideal.ofBits .f32 0x7F800000#32))) 0#32
      (IntOp.subi n 126#32))

/-- How many of the normal powers of two `v` reaches, as a word. -/
def count (v : EReal) : BitVec 32 :=
  BitVec.ofNat 32 (Finset.univ.filter fun k : Fin 254 => power (k.val + 1) ≤ v).card

theorem ofBits_inf : Ideal.ofBits .f32 0x7F800000#32 = ⊤ := by simp [Ideal.ofBits, Ideal.ieee]

theorem ofBits_zero : Ideal.ofBits .f32 0x00000000#32 = 0 := by simp [Ideal.ofBits, Ideal.ieee]

/-- The field of a byte and the field's exponent, on words. -/
theorem word_facts : ∀ E : Fin 256, (IntOp.cmpi .eq (BitVec.ofNat 32 E.val) 0#32 = if E.val = 0 then 1#1 else 0#1)
    ∧ (IntOp.cmpi .eq (BitVec.ofNat 32 E.val) 255#32 = if E.val = 255 then 1#1 else 0#1) := by decide +kernel

/-- The two exponents are equal. -/
theorem countExp_eq (a v : EReal) : countExp a v (count v) = searchExp a v := by
  unfold countExp searchExp
  rw [search_eq, ofBits_inf]
  refine congrArg (Scalar.select _ _) ?_
  have hc := card_le v
  have hw := word_facts ⟨field v, field_lt v⟩
  simp only at hw
  by_cases ht : v = ⊤
  · have hf : field v = 255 := if_pos ht
    have e : Ideal.cmp .oeq v ⊤ = 1#1 := by
      show BitVec.ofBool (decide (v = ⊤)) = _
      rw [decide_eq_true ht]; rfl
    rw [e, hw.2, if_pos hf]
    have q : ∀ x : BitVec 1, IntOp.ori x 1#1 = 1#1 := by decide
    rw [q, q]
    rfl
  · have hf : field v = (Finset.univ.filter fun k : Fin 254 => power (k.val + 1) ≤ v).card := if_neg ht
    have e : Ideal.cmp .oeq v ⊤ = 0#1 := by
      show BitVec.ofBool (decide (v = ⊤)) = _
      rw [decide_eq_false ht]; rfl
    unfold count
    rw [← hf, e, hw.2, if_neg (by omega)]

/-- An exponent is one of the 254 from −125 to 128. -/
theorem searchExp_range (a v : EReal) : ∃ n : ℕ, n < 254 ∧ searchExp a v = IntOp.subi (BitVec.ofNat 32 (n + 3)) 128#32 := by
  have key : ∀ E : Fin 256, ∃ n : Fin 254,
      Scalar.select (IntOp.ori (IntOp.cmpi .eq (BitVec.ofNat 32 E.val) 0#32) (IntOp.cmpi .eq (BitVec.ofNat 32 E.val) 255#32))
        0#32 (IntOp.subi (BitVec.ofNat 32 E.val) 126#32) = IntOp.subi (BitVec.ofNat 32 (n.val + 3)) 128#32 := by
    intro E
    have h : ∀ E : Fin 256,
        Scalar.select (IntOp.ori (IntOp.cmpi .eq (BitVec.ofNat 32 E.val) 0#32) (IntOp.cmpi .eq (BitVec.ofNat 32 E.val) 255#32))
          0#32 (IntOp.subi (BitVec.ofNat 32 E.val) 126#32)
          = IntOp.subi (BitVec.ofNat 32 ((if E.val = 0 ∨ E.val = 255 then 125 else E.val - 1) + 3)) 128#32 := by
      unfold Scalar.select
      decide +kernel
    exact ⟨⟨if E.val = 0 ∨ E.val = 255 then 125 else E.val - 1, by split <;> omega⟩, h E⟩
  unfold searchExp
  rw [search_eq]
  obtain ⟨n, hn⟩ := key ⟨field v, field_lt v⟩
  simp only at hn
  rw [hn]
  by_cases h : Ideal.cmp .oeq a (Ideal.ofBits .f32 0x00000000#32) = 1
  · exact ⟨125, by omega, by rw [h]; rfl⟩
  · exact ⟨n.val, n.isLt, by unfold Scalar.select; rw [if_neg h]⟩

/-- The kernel's power of an exponent: a shifted field, the exponent clipped to the fields there are. -/
def shiftPower (e : BitVec 32) : EReal :=
  Ideal.ofBits .f32 (IntOp.shli .vector (IntOp.addi (IntOp.minsi 128#32 (IntOp.maxsi 4294967169#32 e)) 127#32) 23#32)

/-- The reference's power of an exponent: the exponential, zero below the normal range and infinity above it. -/
def expPower (e : BitVec 32) : EReal :=
  Scalar.select (IntOp.cmpi .slt e 4294967170#32) (Ideal.ofBits .f32 0x00000000#32)
    (Scalar.select (IntOp.cmpi .sgt e 127#32) (Ideal.ofBits .f32 0x7F800000#32) (Ideal.exp2 (((e.toInt : ℝ) : EReal))))

/-- A code before its format: the scaled value, clipped to what the format holds. -/
def clip (x : EReal) : EReal := min (Ideal.ofBits .f32 0x43E00000#32) (max (Ideal.ofBits .f32 0xC3E00000#32) x)

/-- The words of an exponent from −128 to 128. -/
theorem exponent_facts : ∀ n : Fin 257,
    IntOp.shli .vector (IntOp.addi (IntOp.minsi 128#32 (IntOp.maxsi 4294967169#32 (IntOp.subi (BitVec.ofNat 32 n.val) 128#32)))
        127#32) 23#32 = BitVec.ofNat 32 (n.val - 1) <<< 23
    ∧ (IntOp.cmpi .slt (IntOp.subi (BitVec.ofNat 32 n.val) 128#32) 4294967170#32 = if n.val < 2 then 1#1 else 0#1)
    ∧ (IntOp.cmpi .sgt (IntOp.subi (BitVec.ofNat 32 n.val) 128#32) 127#32 = if n.val = 256 then 1#1 else 0#1)
    ∧ (IntOp.subi (BitVec.ofNat 32 n.val) 128#32).toInt = (n.val : ℤ) - 128
    ∧ IntOp.subi 0#32 (IntOp.subi (BitVec.ofNat 32 n.val) 128#32) = IntOp.subi (BitVec.ofNat 32 (256 - n.val)) 128#32 := by
  decide +kernel

/-- The two powers of an exponent from −128 to 128 are equal. -/
theorem power_eq (n : ℕ) (h : n < 257) :
    shiftPower (IntOp.subi (BitVec.ofNat 32 n) 128#32) = expPower (IntOp.subi (BitVec.ofNat 32 n) 128#32) := by
  obtain ⟨h1, h2, h3, h4, _⟩ := exponent_facts ⟨n, h⟩
  simp only at h1 h2 h3 h4
  unfold shiftPower expPower
  rw [h1, h2, h3, ofBits_shift (by omega), ofBits_inf, ofBits_zero]
  by_cases a : n < 2
  · rw [if_pos a]
    show power (n - 1) = 0
    rw [show n - 1 = 0 by omega]
    rfl
  · rw [if_neg a]
    by_cases b : n = 256
    · subst b; rw [if_pos rfl]; exact power_top
    · rw [if_neg b]
      exact (exp2_int _ (n - 1) (by rw [h4]; omega) (by omega) (by omega)).symm

/-- So the two scales of a row agree, -/
theorem scale_eq (a v : EReal) : shiftPower (searchExp a v) = expPower (countExp a v (count v)) := by
  rw [countExp_eq]
  obtain ⟨n, hn, e⟩ := searchExp_range a v
  rw [e]
  exact power_eq _ (by omega)

/-- and the two reciprocals of the scale. -/
theorem unscale_eq (a v : EReal) :
    shiftPower (IntOp.subi 0#32 (searchExp a v)) = expPower (IntOp.subi 0#32 (countExp a v (count v))) := by
  rw [countExp_eq]
  obtain ⟨n, hn, e⟩ := searchExp_range a v
  rw [e, (exponent_facts ⟨n + 3, by omega⟩).2.2.2.2]
  exact power_eq _ (by omega)

end Cert.Quant

end
-- ==== Proof.Product.lean ====
/- An entry of a matrix product whose rows and columns are scaled. -/
module

public import Idealize.ShloMosaic.PureOps.Ideal
public import Idealize.ShloMosaic.PureOps.Vector
public import Idealize.ShloMosaic.Lib.Pointwise

@[expose] public section

noncomputable section

namespace Cert.Quant

open Idealize.ShloMosaic

/-- Row `r` of `X` times column `l` of `W`, with the row's scale `s` and the column's `t`. -/
def prodOf {M K N : ℕ} (X : FVec Ideal ⟨2, ![M, K]⟩ .fp8e4m3) (W : FVec Ideal ⟨2, ![K, N]⟩ .fp8e4m3)
    (s : FVec Ideal ⟨2, ![M, 1]⟩ .f32) (t : FVec Ideal ⟨2, ![1, N]⟩ .f32) (r : Fin M) (l : Fin N) : EReal :=
  (∑ k : Fin K, X (ix2 r k) * W (ix2 k l)) * s (ix2 r 0) * t (ix2 0 l)

/-- An entry depends on one row, one column and their scales. -/
theorem prodOf_congr {M K N M' N' : ℕ} {X : FVec Ideal ⟨2, ![M, K]⟩ .fp8e4m3} {W : FVec Ideal ⟨2, ![K, N]⟩ .fp8e4m3}
    {s : FVec Ideal ⟨2, ![M, 1]⟩ .f32} {t : FVec Ideal ⟨2, ![1, N]⟩ .f32} {r : Fin M} {l : Fin N}
    {X' : FVec Ideal ⟨2, ![M', K]⟩ .fp8e4m3} {W' : FVec Ideal ⟨2, ![K, N']⟩ .fp8e4m3}
    {s' : FVec Ideal ⟨2, ![M', 1]⟩ .f32} {t' : FVec Ideal ⟨2, ![1, N']⟩ .f32} {r' : Fin M'} {l' : Fin N'}
    (hX : ∀ k, X (ix2 r k) = X' (ix2 r' k)) (hW : ∀ k, W (ix2 k l) = W' (ix2 k l'))
    (hs : s (ix2 r 0) = s' (ix2 r' 0)) (ht : t (ix2 0 l) = t' (ix2 0 l')) :
    prodOf X W s t r l = prodOf X' W' s' t' r' l' := by
  unfold prodOf
  rw [hs, ht, Finset.sum_congr rfl fun k _ => congrArg₂ (· * ·) (hX k) (hW k)]

end Cert.Quant

end
-- ==== Proof.KernelRow.lean ====
/- The kernel's exponents, scales and codes at a row of a row block. -/
module

public import proofs.«01_k».proof.Proof.Run
public import proofs.«01_k».proof.Proof.Exponent
public import proofs.«01_k».proof.Proof.Product
public import Idealize.ShloMosaic.Lib.Pointwise

@[expose] public section

set_option maxRecDepth 16384

noncomputable section

namespace Cert.KernelIdeal.Run

open Cert.KernelIdeal Cert.KernelIdeal.Gen Cert.Quant
open Idealize.ShloMosaic

/-- The largest magnitude of a row, by its columns. -/
theorem blockMax_apply (Y : FVec Ideal S256x7168 .f32) (j : S256x1.Idx) :
    k0_pay4 Y j = Finset.univ.fold max (Ideal.ofBits .f32 0xFF800000#32)
      fun x : Fin 7168 => FloatOps.absf (Y (ix2 (j 0) x)) := by
  unfold k0_pay4
  pointwise

/-- One step of the search on all rows. -/
def stepVec (v : FVec Ideal S256x1 .f32) (b : BitVec 32) (E : IVec S256x1 32) : IVec S256x1 32 :=
  select (cmpf .oge v (bitcastToFloat .f32 (shli (addi (subi (addi E (broadcast S256x1 b)) (broadcast S256x1 127#32))
    (broadcast S256x1 127#32)) (broadcast S256x1 23#32)))) (addi E (broadcast S256x1 b)) E

theorem stepVec_apply (v : FVec Ideal S256x1 .f32) (b : BitVec 32) (E : IVec S256x1 32) (j : S256x1.Idx) :
    stepVec v b E j = step (v j) b (E j) := by
  show Scalar.select (FloatOps.cmpf (F := Ideal) .oge (v j) (FloatOps.ofBits (F := Ideal) .f32 (IntOp.shli .vector
    (IntOp.addi (IntOp.subi (IntOp.addi (E j) b) 127#32) 127#32) 23#32))) (IntOp.addi (E j) b) (E j) = _
  rw [Ideal.ofBits_def, Ideal.cmpf_def]
  rfl

/-- The first two steps, -/
theorem pay6_eq (Y : Vec Ideal S256x7168 .f32) :
    k0_pay6 Y = stepVec (k0_pay5 Y) 64#32 (stepVec (k0_pay5 Y) 128#32 (broadcast S256x1 0#32)) := by
  unfold k0_pay6 stepVec
  rfl

/-- the next four, -/
theorem pay8_eq (Y : Vec Ideal S256x7168 .f32) :
    k0_pay8 (k0_pay5 Y) (k0_pay6 Y) (k0_pay7 Y)
      = stepVec (k0_pay5 Y) 4#32 (stepVec (k0_pay5 Y) 8#32 (stepVec (k0_pay5 Y) 16#32 (stepVec (k0_pay5 Y) 32#32
        (k0_pay6 Y)))) := by
  unfold k0_pay8 k0_pay7 stepVec
  rfl

/-- The exponents of rows, of their largest magnitudes and their fields. -/
def expVec (a : FVec Ideal S256x1 .f32) (n : IVec S256x1 32) : IVec S256x1 32 :=
  select (cmpf .oeq a (broadcast S256x1 (Scalar.ofBits .f32 0x00000000#32))) (broadcast S256x1 0#32)
    (select (ori (cmpi .eq n (broadcast S256x1 0#32)) (cmpi .eq n (broadcast S256x1 255#32)))
      (broadcast S256x1 0#32) (subi n (broadcast S256x1 126#32)))

/-- and the last two with the exponent. -/
theorem pay9_eq (a v : FVec Ideal S256x1 .f32) (E : IVec S256x1 32) :
    k0_pay9 a v E = expVec a (stepVec v 1#32 (stepVec v 2#32 E)) := by
  unfold k0_pay9 expVec stepVec
  rfl

/-- The unrounded scale of a row. -/
theorem rawScale_apply (Y : Vec Ideal S256x7168 .f32) (j : S256x1.Idx) :
    k0_pay5 Y j = k0_pay4 Y j * Ideal.ofBits .f32 0x3B124925#32 := by
  have h : ∀ a : FVec Ideal S256x1 .f32, mulf a (broadcast S256x1 (Scalar.ofBits .f32 0x3B124925#32)) j
      = a j * Ideal.ofBits .f32 0x3B124925#32 := fun _ => rfl
  unfold k0_pay5
  exact h (k0_pay4 Y)

/-- The exponent of a row. -/
theorem blockExp_apply (Y : Vec Ideal S256x7168 .f32) (j : S256x1.Idx) :
    blockExp Y j = searchExp (k0_pay4 Y j) (k0_pay4 Y j * Ideal.ofBits .f32 0x3B124925#32) := by
  unfold blockExp
  rw [pay9_eq, pay8_eq, pay6_eq, ← rawScale_apply]
  have h : ∀ (a : FVec Ideal S256x1 .f32) (n : IVec S256x1 32), expVec a n j
      = Scalar.select (Ideal.cmp .oeq (a j) (Ideal.ofBits .f32 0x00000000#32)) 0#32
        (Scalar.select (IntOp.ori (IntOp.cmpi .eq (n j) 0#32) (IntOp.cmpi .eq (n j) 255#32)) 0#32
          (IntOp.subi (n j) 126#32)) := fun _ _ => rfl
  rw [h]
  have hb : (broadcast S256x1 0#32 : IVec S256x1 32) j = 0#32 := rfl
  simp only [stepVec_apply, hb]
  unfold searchExp search
  rfl

/-- The kernel's powers of any exponents. -/
def powerVec (e : IVec S256x1 32) : FVec Ideal S256x1 .f32 :=
  bitcastToFloat .f32 (shli (addi (minsi (broadcast S256x1 128#32) (maxsi (broadcast S256x1 4294967169#32) e))
    (broadcast S256x1 127#32)) (broadcast S256x1 23#32))

theorem powerVec_apply (e : IVec S256x1 32) (j : S256x1.Idx) : powerVec e j = shiftPower (e j) := by
  show FloatOps.ofBits (F := Ideal) .f32 (IntOp.shli .vector
    (IntOp.addi (IntOp.minsi 128#32 (IntOp.maxsi 4294967169#32 (e j))) 127#32) 23#32) = _
  rw [Ideal.ofBits_def]
  rfl

/-- The scale of a row. -/
theorem blockScale_apply (Y : Vec Ideal S256x7168 .f32) (j : S256x1.Idx) :
    blockScale Y j = shiftPower (blockExp Y j) := by
  have h : blockScale Y = powerVec (blockExp Y) := by
    unfold blockScale powerVec k0_pay2 k0_pay10 k0_pay11 blockExp
    rfl
  rw [h, powerVec_apply]

/-- The codes of a product, of any powers. -/
def codesVec (Y : FVec Ideal S256x7168 .f32) (p : FVec Ideal S256x1 .f32) : FVec Ideal S256x7168 .fp8e4m3 :=
  truncf .fp8e4m3 (minimumf (broadcast S256x7168 (Scalar.ofBits .f32 0x43E00000#32))
    (maximumf (broadcast S256x7168 (Scalar.ofBits .f32 0xC3E00000#32))
      (mulf Y (broadcastTo S256x7168 p broadcasts_S256x1_S256x7168)))) bitsLt_fp8e4m3_f32

theorem codesVec_apply (Y : FVec Ideal S256x7168 .f32) (p : FVec Ideal S256x1 .f32) (j : S256x7168.Idx) :
    codesVec Y p j = clip (Y j * p (ix2 (j 0) 0)) := by
  unfold codesVec clip
  pointwise

theorem codes_eq (Y : Vec Ideal S256x7168 .f32) (e : IVec S256x1 32) :
    k0_pay3 Y e = codesVec Y (powerVec (subi (broadcast S256x1 0#32) e)) := by
  unfold k0_pay3 codesVec powerVec
  rfl

/-- The codes at a row and a column, of any product and exponents. -/
theorem pay3_apply (Y : Vec Ideal S256x7168 .f32) (e : IVec S256x1 32) (j : S256x7168.Idx) :
    k0_pay3 Y e j = clip (Y j * shiftPower (IntOp.subi 0#32 (e (ix2 (j 0) 0)))) := by
  rw [codes_eq, codesVec_apply, powerVec_apply]
  rfl

/-- The codes of a row block. -/
theorem blockCodes_apply (Y : Vec Ideal S256x7168 .f32) (j : S256x7168.Idx) :
    blockCodes Y j = clip (Y j * shiftPower (IntOp.subi 0#32 (blockExp Y (ix2 (j 0) 0)))) := pay3_apply Y _ j

/-- The scaled product of a tile at a row and a column. -/
theorem tile_apply (v0 : Vec Ideal S256x3584 .fp8e4m3) (v2 : Vec Ideal S3584x1024 .fp8e4m3) (v4 : Vec Ideal S256x1 .f32)
    (v8 : Vec Ideal S1x1024 .f32) (j : S256x1024.Idx) :
    k0_pay1 v0 v2 v4 v8 j = prodOf v0 v2 v4 v8 (j 0) (j 1) := by
  unfold k0_pay1 prodOf
  pointwise

end Cert.KernelIdeal.Run

end
-- ==== Proof.RunStep.lean ====
/- The kernel body run at a point that is not the last of its row block: it puts its tile into the scratch and leaves
   everything else as it was. -/
module

public import proofs.«01_k».proof.Proof.Run

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Where the branch is not taken, the body leaves the operands and the two output buffers as they were and the scratch
    with the tile put in. -/
theorem run_step (c : Dev nD) (i : grid0.Coords) (arg2 : Memref sig .tc .vmem S256x3584 .fp8e4m3) (harg2 : arg2.IsWhole)
    (arg3 : Memref sig .tc .vmem S256x1 .f32) (harg3 : arg3.IsWhole)
    (arg4 : Memref sig .tc .vmem S3584x1024 .fp8e4m3) (harg4 : arg4.IsWhole)
    (arg5 : Memref sig .tc .vmem S1x1024 .f32) (harg5 : arg5.IsWhole)
    (arg6 : Memref sig .tc .vmem S256x1 .f32) (harg6 : arg6.IsWhole)
    (arg7 : Memref sig .tc .vmem S256x7168 .fp8e4m3) (harg7 : arg7.IsWhole)
    (arg8 : Memref sig .tc .vmem S256x7168 .f32) (harg8 : arg8.IsWhole)
    (hc0 : ¬last i) (x0 : Vec F S256x3584 .fp8e4m3) (x1 : Vec F S256x1 .f32) (x2 : Vec F S3584x1024 .fp8e4m3)
    (x3 : Vec F S1x1024 .f32) (x4 : Vec F S256x1 .f32) (x5 : Vec F S256x7168 .fp8e4m3) (Y : Vec F S256x7168 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare Y
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare (withTile i x0 x1 x2 x3 Y)) -∗ K ⟨⟩))
      ⊢ wp frame (wpE (defs₀ (F := F)) Variants.none c none) E
          (cc0__body i arg2 harg2 arg3 harg3 arg4 harg4 arg5 harg5 arg6 harg6 arg7 harg7 arg8 harg8) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr; swap; · iexact HS
  ipureintro
  rw [View.read_writes_cons_put _ _ _ _ _ rfl, View.writes_nil, harg8.read_unread]
  rw [View.readAt_full (s := S256x3584), View.readAt_full (s := S3584x1024), View.readAt_full (s := S256x1),
    View.readAt_full (s := S1x1024), hf0, hf1, hf2, hf3]
  rfl

end Cert.KernelIdeal.Run

end
-- ==== Proof.RunLast.lean ====
/- The kernel body run at the last point of a row block: it puts its tile into the scratch, reads the whole row block
   back, and stores the row block's scales and codes. -/
module

public import proofs.«01_k».proof.Proof.RunStep

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Where the branch is taken, the body leaves the operands as they were, the scratch with the tile put in, and the two
    output buffers at the scales and the codes of that row block. -/
theorem run_last (c : Dev nD) (i : grid0.Coords) (arg2 : Memref sig .tc .vmem S256x3584 .fp8e4m3) (harg2 : arg2.IsWhole)
    (arg3 : Memref sig .tc .vmem S256x1 .f32) (harg3 : arg3.IsWhole)
    (arg4 : Memref sig .tc .vmem S3584x1024 .fp8e4m3) (harg4 : arg4.IsWhole)
    (arg5 : Memref sig .tc .vmem S1x1024 .f32) (harg5 : arg5.IsWhole)
    (arg6 : Memref sig .tc .vmem S256x1 .f32) (harg6 : arg6.IsWhole)
    (arg7 : Memref sig .tc .vmem S256x7168 .fp8e4m3) (harg7 : arg7.IsWhole)
    (arg8 : Memref sig .tc .vmem S256x7168 .f32) (harg8 : arg8.IsWhole)
    (hc0 : last i) (x0 : Vec F S256x3584 .fp8e4m3) (x1 : Vec F S256x1 .f32) (x2 : Vec F S3584x1024 .fp8e4m3)
    (x3 : Vec F S1x1024 .f32) (Y : Vec F S256x7168 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare Y
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare (blockScale (withTile i x0 x1 x2 x3 Y))
        ∗ owns (c : Thread nD τ) arg7 fullShare (blockCodes (withTile i x0 x1 x2 x3 Y))
        ∗ owns (c : Thread nD τ) arg8 fullShare (withTile i x0 x1 x2 x3 Y)) -∗ K ⟨⟩))
      ⊢ wp frame (wpE (defs₀ (F := F)) Variants.none c none) E
          (cc0__body i arg2 harg2 arg3 harg3 arg4 harg4 arg5 harg5 arg6 harg6 arg7 harg7 arg8 harg8) K := by
  simp only [cc0__body_eq_skeleton]; unfold cc0__body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩,
    ⟨%fs, %hfs, HS⟩, Hk⟩
  obtain rfl := harg2.eq_unread hf0; obtain rfl := harg3.eq_unread hf1; obtain rfl := harg4.eq_unread hf2
  obtain rfl := harg5.eq_unread hf3; obtain rfl := harg8.eq_unread hfs
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  have hw : View.read (Elt F) arg8.view (arg8.view.writes (Elt F) (harg8.unread Y)
      (run_last.sl.HS_1 c i arg2 harg2 arg3 harg3 arg4 harg4 arg5 harg5 x0 x1 x2 x3)) = withTile i x0 x1 x2 x3 Y := by
    unfold run_last.sl.HS_1
    rw [View.read_writes_cons_put _ _ _ _ _ rfl, View.writes_nil, harg8.read_unread]
    rw [View.readAt_full (s := S256x3584), View.readAt_full (s := S3584x1024), View.readAt_full (s := S256x1),
      View.readAt_full (s := S1x1024), hf0, hf1, hf2, hf3]
    rfl
  have hv : run_last.sl.v19 c i arg2 harg2 arg3 harg3 arg4 harg4 arg5 harg5 arg8 harg8 x0 x1 x2 x3 Y = withTile i x0 x1 x2 x3 Y := by
    unfold run_last.sl.v19
    rw [View.readAt_full (s := S256x7168)]
    exact hw
  isplitl [H4]
  · iexists _; isplitr; swap; · iexact H4
    ipureintro
    rw [View.read_writes_full (s := S256x1)]
    exact congrArg blockScale hv
  isplitl [H5]
  · iexists _; isplitr; swap; · iexact H5
    ipureintro
    rw [View.read_writes_full (s := S256x7168)]
    exact congrArg blockCodes hv
  iexists _; isplitr; swap; · iexact HS
  ipureintro
  exact hw

end Cert.KernelIdeal.Run

end
-- ==== Proof.Filled.lean ====
/- What the scratch holds at each point: the columns the points of the current row block have filled so far are the
   row block of the product `x · w` with both scales applied. -/
module

public import proofs.«01_k».proof.Proof.RunLast
public import Idealize.ShloMosaic.Lib.ValueIdxCore

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Point number `k` (taken modulo the number of points). -/
def pt (k : ℕ) : Fin cfg0.N := ⟨k % 42, lt_of_lt_of_eq (Nat.mod_lt _ (by decide)) (show 42 = cfg0.N from N_0.symm)⟩

/-- The tile that point `t` computes. -/
def tile (c : Dev nD) (t : Fin cfg0.N) : Vec F S256x1024 .f32 :=
  k0_pay1 (iblk m c 0 t) (iblk m c 2 t) (iblk m c 1 t) (iblk m c 3 t)

/-- Row block `q` of the scaled product: column `j` comes from the tile of point `7 * q + j / 1024`. -/
def rowBlock (c : Dev nD) (q : ℕ) : Vec F S256x7168 .f32 := fun y =>
  tile m c (pt (7 * q + (y 1).val / 1024)) (ix2 (y 0) ⟨(y 1).val % 1024, Nat.mod_lt _ (by decide)⟩)

/-- Before point `n` the scratch `d` holds the row block in the columns that the earlier points of the block filled. -/
def Filled (c : Dev nD) (n : ℕ) (d : Vec F S256x7168 .f32) : Prop :=
  ∀ y : S256x7168.Idx, (y 1).val < (n % 7) * 1024 → d y = rowBlock m c (n / 7) y

/-- Before the first point of a row block nothing is asked of the scratch. -/
theorem filled_start (c : Dev nD) (n : ℕ) (h : n % 7 = 0) (d : Vec F S256x7168 .f32) : Filled m c n d := fun y hy => by
  rw [h] at hy; omega

/-- The scratch after point `t`, at the columns of `t`'s tile and before. -/
theorem withTile_apply (c : Dev nD) (t : Fin cfg0.N) (d : Vec F S256x7168 .f32) (hd : Filled m c t.val d)
    (y : S256x7168.Idx) (hy : (y 1).val < (t.val % 7 + 1) * 1024) :
    withTile (grid0.coords t) (iblk m c 0 t) (iblk m c 1 t) (iblk m c 2 t) (iblk m c 3 t) d y
      = rowBlock m c (t.val / 7) y := by
  have ht : t.val < 42 := Nat.lt_of_lt_of_eq t.isLt N_0
  unfold withTile
  rw [off_eq t]
  unfold VecWindow.put
  split
  · rename_i h
    have h1 : 1024 * (t.val % 7) ≤ (y 1).val ∧ (y 1).val < 1024 * (t.val % 7) + 1024 := h 1
    have e : pt (7 * (t.val / 7) + (y 1).val / 1024) = t := Fin.ext (by
      show (7 * (t.val / 7) + (y 1).val / 1024) % 42 = t.val
      omega)
    unfold rowBlock
    rw [e]
    unfold tile
    refine congrArg _ (funext fun a => Fin.ext ?_)
    rw [Rect.unitLocal_val]
    fin_cases a
    · show (y 0).val - 0 = (y 0).val
      omega
    · show (y 1).val - 1024 * (t.val % 7) = (y 1).val % 1024
      omega
  · rename_i h
    refine hd y ?_
    by_contra hlt
    refine h fun a => ?_
    fin_cases a
    · have h0 : (y 0).val < 256 := (y 0).isLt
      show 0 ≤ (y 0).val ∧ (y 0).val < 0 + 256
      omega
    · show 1024 * (t.val % 7) ≤ (y 1).val ∧ (y 1).val < 1024 * (t.val % 7) + 1024
      omega

/-- A point that is not the last of its row block extends the filled columns by its tile. -/
theorem filled_step (c : Dev nD) (t : Fin cfg0.N) (h : ¬t.val % 7 = 6) (d : Vec F S256x7168 .f32)
    (hd : Filled m c t.val d) :
    Filled m c (t.val + 1) (withTile (grid0.coords t) (iblk m c 0 t) (iblk m c 1 t) (iblk m c 2 t) (iblk m c 3 t) d) :=
  fun y hy => by
    have e1 : (t.val + 1) % 7 = t.val % 7 + 1 := by omega
    have e2 : (t.val + 1) / 7 = t.val / 7 := by omega
    rw [e1] at hy
    rw [e2]
    exact withTile_apply m c t d hd y hy

/-- After the last point of a row block the scratch is the whole row block. -/
theorem filled_last (c : Dev nD) (t : Fin cfg0.N) (h : t.val % 7 = 6) (d : Vec F S256x7168 .f32)
    (hd : Filled m c t.val d) :
    withTile (grid0.coords t) (iblk m c 0 t) (iblk m c 1 t) (iblk m c 2 t) (iblk m c 3 t) d
      = rowBlock m c (t.val / 7) :=
  funext fun y => withTile_apply m c t d hd y (by
    have h1 : (y 1).val < 7168 := (y 1).isLt
    omega)

end Cert.KernelIdeal.Run

end
-- ==== Proof.KernelRun.lean ====
/- The whole kernel run: every grid point by the body's two runs, the scratch carried from point to point, and @main
   around the grid. The final memory has the two result arrays as the library assembles them from the blocks stored at
   the last point of each row block, and every buffer the grid does not touch as the host lines leave it. -/
module

public import proofs.«01_k».proof.Proof.Filled
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is held between points `n - 1` and `n`: the scratch, with its filled columns as `Filled` says, and the random
    generator's register. -/
def PhiS (c : Dev nD) (n : ℕ) (_ : n ≤ cfg0.N) : sProp 𝕄 :=
  iprop(∃ d, iprop(owns (c : Thread nD τ) scratch fullShare d ∗ ⌜Filled m c n d⌝) ∗ (∃ r, prngReg c r))

/-- The proof data of the grid on core `c`: the arrays as the grid finds them; after the body each input's buffer at its
    block, and the two outputs' at the scales and the codes of the point's row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockScale (rowBlock m c (t.val / 7))
    | ⟨5, _⟩ => blockCodes (rowBlock m c (t.val / 7))
  Φ t := PhiS m c t.val (Nat.le_of_lt_succ t.isLt)
  q _ := fullShare
  owed _ := 0

/-- The proof data's arrays are what the grid finds. -/
theorem A_eq (c : Dev nD) (w : Fin cfg0.W) : (dats m 0 c).A w = V m c (Pipeline.arrRef spec0 w) := by
  dsimp only [dats]

/-- The proof data's invariant before point `t`. -/
theorem PhiS_castSucc (c : Dev nD) (t : Fin cfg0.N) :
    (dats m 0 c).Φ t.castSucc = PhiS m c t.val (Nat.le_of_lt t.isLt) := by
  dsimp only [dats]
  exact Pipeline.Dat.Φ_castSucc (PhiS m c) t

/-- What the proof data says of each window after the body at point `t`. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = blockScale (rowBlock m c (t.val / 7)) := by
  dsimp only [dats]
theorem after_5 (c : Dev nD) (t : Fin cfg0.N) : (dats m 0 c).after 5 t = blockCodes (rowBlock m c (t.val / 7)) := by
  dsimp only [dats]

/-- Before the body at point `t` each input's buffer holds its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## One point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 3200000 in
/-- The body at any point: `run_step` before the last point of a row block, `run_last` at it. -/
theorem sound_body (c : Dev nD) (t : Fin cfg0.N) :
    bodyPre m c t
      ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_castSucc m c t]
  unfold PhiS
  rw [show (dats m 0 c).leavesExact 0 t = owns (c : Thread nD τ) (ms0 t) fullShare ((dats m 0 c).after 0 t) from by
    unfold Dat.leavesExact; rw [show cfg0.idle 0 (grid0.coords t) = false from rfl], after_0]
  rw [show (dats m 0 c).leavesExact 1 t = owns (c : Thread nD τ) (ms1 t) fullShare ((dats m 0 c).after 1 t) from by
    unfold Dat.leavesExact; rw [show cfg0.idle 1 (grid0.coords t) = false from rfl], after_1]
  rw [show (dats m 0 c).leavesExact 2 t = owns (c : Thread nD τ) (ms2 t) fullShare ((dats m 0 c).after 2 t) from by
    unfold Dat.leavesExact; rw [show cfg0.idle 2 (grid0.coords t) = false from rfl], after_2]
  rw [show (dats m 0 c).leavesExact 3 t = owns (c : Thread nD τ) (ms3 t) fullShare ((dats m 0 c).after 3 t) from by
    unfold Dat.leavesExact; rw [show cfg0.idle 3 (grid0.coords t) = false from rfl], after_3]
  by_cases h0 : t.val % 7 = 6
  · rw [show (dats m 0 c).leavesExact 4 t = owns (c : Thread nD τ) (ms4 t) fullShare ((dats m 0 c).after 4 t) from by
      unfold Dat.leavesExact; rw [live4 t ((last_iff t).mpr h0)], after_4]
    rw [show (dats m 0 c).leavesExact 5 t = owns (c : Thread nD τ) (ms5 t) fullShare ((dats m 0 c).after 5 t) from by
      unfold Dat.leavesExact; rw [live5 t ((last_iff t).mpr h0)], after_5]
    iintro ⟨⟨%d, ⟨HS, %hd⟩, Hg⟩, Ho, ⟨%d0, H0⟩, ⟨%d1, H1⟩, ⟨%d2, H2⟩, ⟨%d3, H3⟩, ⟨%d4, H4⟩, ⟨%d5, H5⟩⟩
    iapply (run_last c (grid0.coords t) _ _ _ _ _ _ _ _ _ _ _ _ _ _ ((last_iff t).mpr h0) (iblk m c 0 t) (iblk m c 1 t)
      (iblk m c 2 t) (iblk m c 3 t) d Set.univ _)
    rw [filled_last m c t h0 d hd]
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · iexists _
      isplitl [HS]
      · isplitl [HS]
        · iexact HS
        ipureintro
        exact filled_start m c (t.val + 1) (by omega) _
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dats m 0 c) 4 t (idle4 t (fun h => h0 ((last_iff t).mp h)))
      (noFlush4 t (fun h => h0 ((last_iff t).mp h)))]
    rw [Dat.leavesExact_idle (dats m 0 c) 5 t (idle5 t (fun h => h0 ((last_iff t).mp h)))
      (noFlush5 t (fun h => h0 ((last_iff t).mp h)))]
    iintro ⟨⟨%d, ⟨HS, %hd⟩, Hg⟩, Ho, ⟨%d0, H0⟩, ⟨%d1, H1⟩, ⟨%d2, H2⟩, ⟨%d3, H3⟩, ⟨%d4, H4⟩, ⟨%d5, H5⟩⟩
    iapply (run_step c (grid0.coords t) _ _ _ _ _ _ _ _ _ _ _ _ _ _ (fun h => h0 ((last_iff t).mp h)) (iblk m c 0 t)
      (iblk m c 1 t) (iblk m c 2 t) (iblk m c 3 t) _ _ d Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · iexists _
      isplitl [HS]
      · isplitl [HS]
        · iexact HS
        ipureintro
        exact filled_step m c t h0 d hd
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

/-- The body table's row at point `t` is the body at the point's buffers. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- What the launch hands the grid: the scratch at some contents and the generator's register. -/
theorem launch_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- It gives the invariant before the first point. -/
theorem hin (c : Dev nD) : Pipeline.ΦA spec0 c ⊢ (dats m 0 c).Φ 0 := by
  rw [show (dats m 0 c).Φ 0 = PhiS m c 0 (Nat.zero_le _) from rfl, launch_eq]
  unfold PhiS
  iintro ⟨⟨%d, HS⟩, Hg⟩
  iexists d
  isplitl [HS]
  · isplitl [HS]
    · iexact HS
    ipureintro
    exact filled_start m c 0 rfl d
  iexact Hg

/-- The invariant after the last point gives it back. -/
theorem hout (c : Dev nD) : (dats m 0 c).Φ (Fin.last cfg0.N) ⊢ Pipeline.ΦA spec0 c := by
  rw [show (dats m 0 c).Φ (Fin.last cfg0.N)
    = PhiS m c (Fin.last cfg0.N).val (Nat.le_of_lt_succ (Fin.last cfg0.N).isLt) from rfl, launch_eq]
  unfold PhiS
  iintro ⟨%d, ⟨HS, -⟩, Hg⟩
  isplitl [HS]
  · iexists _; iexact HS
  iexact Hg

set_option backward.isDefEq.respectTransparency.types false in
set_option maxHeartbeats 800000 in
/-- The run of the program from any memory with zero counters: it terminates with the arrays and the other buffers as
    said above and every semaphore counter at zero. -/
theorem run_main_quiescent : θ_run defs (onTc (τ := τ) (main (F := F))) (s₀ m ρ) (fun r =>
    (Pipeline.FramePost cfgs (dats m) 0 (Pipeline.afterTail₀ cfgs (dats m) 0 (V0 m) [hostOps1])) r
      ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hin := hin m) (hout := hout m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Run

end
-- ==== Proof.KernelValue.lean ====
/- The two result arrays after the kernel run, as functions of the row blocks: row `r` comes from row block `r / 256`,
   and the program's results are these arrays reshaped. -/
module

public import proofs.«01_k».proof.Proof.KernelRun
public import Idealize.ShloMosaic.Lib.Pipeline.ValueKit.Geometry
public import Idealize.ShloMosaic.Lib.StableHlo.RunRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The array of scales: row `r` is row `r % 256` of the scales of row block `r / 256`. -/
def scaleArr (c : Dev nD) : Vec F S1536x1 .f32 := fun j =>
  blockScale (rowBlock m c ((j 0).val / 256)) (ix2 ⟨(j 0).val % 256, Nat.mod_lt _ (by decide)⟩ (j 1))

/-- The array of codes: row `r` is row `r % 256` of the codes of row block `r / 256`. -/
def codesArr (c : Dev nD) : Vec F S1536x7168 .fp8e4m3 := fun j =>
  blockCodes (rowBlock m c ((j 0).val / 256)) (ix2 ⟨(j 0).val % 256, Nat.mod_lt _ (by decide)⟩ (j 1))

/-- Block `t / 7` of the scales is the one point `t` works on, -/
theorem index4 : ∀ t : Fin cfg0.N, win0_4.index t = ![t.val / 7, 0] :=
  (by decide +kernel : ∀ t : Fin grid0.N, win0_4.index t = ![t.val / 7, 0])

/-- and of the codes. -/
theorem index5 : ∀ t : Fin cfg0.N, win0_5.index t = ![t.val / 7, 0] :=
  (by decide +kernel : ∀ t : Fin grid0.N, win0_5.index t = ![t.val / 7, 0])

/-- After the run the array of scales is `scaleArr`. -/
theorem arr4 (c : Dev nD) : (dats m 0 c).arrAt 4 cfg0.N = scaleArr m c := by
  refine (dats m 0 c).arrAt_eq_of_covers 4 _ (by decide +kernel) fun t hf y => ?_
  have h0 : (((win0_4.blk t).view.emb y 0 : Fin _) : ℕ) = t.val / 7 * 256 + (y 0).val := by
    blk_simp [index4]
  have h1 : (((win0_4.blk t).view.emb y 1 : Fin _) : ℕ) = (y 1).val := by
    blk_simp [index4]
  have hy : (y 0).val < 256 := (y 0).isLt
  blk_simp
  rw [after_4]
  unfold scaleArr
  have e1 : ((win0_4.blk t).view.emb y 0).val / 256 = t.val / 7 := by rw [h0]; omega
  rw [e1]
  refine congrArg _ (funext fun a => Fin.ext ?_)
  fin_cases a
  · show (y 0).val = ((win0_4.blk t).view.emb y 0).val % 256
    rw [h0]; omega
  · exact h1.symm

/-- After the run the array of codes is `codesArr`. -/
theorem arr5 (c : Dev nD) : (dats m 0 c).arrAt 5 cfg0.N = codesArr m c := by
  refine (dats m 0 c).arrAt_eq_of_covers 5 _ (by decide +kernel) fun t hf y => ?_
  have h0 : (((win0_5.blk t).view.emb y 0 : Fin _) : ℕ) = t.val / 7 * 256 + (y 0).val := by
    blk_simp [index5]
  have h1 : (((win0_5.blk t).view.emb y 1 : Fin _) : ℕ) = (y 1).val := by
    blk_simp [index5]
  have hy : (y 0).val < 256 := (y 0).isLt
  blk_simp
  rw [after_5]
  unfold codesArr
  have e1 : ((win0_5.blk t).view.emb y 0).val / 256 = t.val / 7 := by rw [h0]; omega
  rw [e1]
  refine congrArg _ (funext fun a => Fin.ext ?_)
  fin_cases a
  · show (y 0).val = ((win0_5.blk t).view.emb y 0).val % 256
    rw [h0]; omega
  · exact h1.symm

/-- The first result: the array of scales, reshaped. -/
theorem tail3 (c : Dev nD) : Pipeline.afterTail₀ cfgs (dats m) 0 (V0 m) [hostOps1] c main_v3
    = shapeCast S3x512x1 (scaleArr m c) shapeCasts_S1536x1_S3x512x1 := by
  unfold Pipeline.afterTail₀
  simp only [List.flatten_cons, List.flatten_nil, List.append_nil]
  after_reads_simp
  refine congrArg (fun x : Vec F S1536x1 .f32 => shapeCast S3x512x1 x shapeCasts_S1536x1_S3x512x1) ?_
  exact (Pipeline.withArrays_arr (cfgs 0).spec winFacts0.arr_inj c (V0 m c) _ (4 : Fin 6)).trans (arr4 m c)

/-- The second result: the array of codes, reshaped. -/
theorem tail4 (c : Dev nD) : Pipeline.afterTail₀ cfgs (dats m) 0 (V0 m) [hostOps1] c main_v4
    = shapeCast S3x512x7168 (codesArr m c) shapeCasts_S1536x7168_S3x512x7168 := by
  unfold Pipeline.afterTail₀
  simp only [List.flatten_cons, List.flatten_nil, List.append_nil]
  after_reads_simp
  refine congrArg (fun x : Vec F S1536x7168 .fp8e4m3 => shapeCast S3x512x7168 x shapeCasts_S1536x7168_S3x512x7168) ?_
  exact (Pipeline.withArrays_arr (cfgs 0).spec winFacts0.arr_inj c (V0 m c) _ (5 : Fin 6)).trans (arr5 m c)

/-- The run of the program: the two results are the reshaped arrays, the arguments end unchanged. -/
theorem run_values : θ_run defs (onTc (τ := τ) (main (F := F))) ⟨m, fun _ => 0, ρ⟩ (fun r => ∀ c : Dev nD,
      r.2.mem ((c.tc : Thread nD τ).loc main_v3) = shapeCast S3x512x1 (scaleArr m c) shapeCasts_S1536x1_S3x512x1
      ∧ r.2.mem ((c.tc : Thread nD τ).loc main_v4)
        = shapeCast S3x512x7168 (codesArr m c) shapeCasts_S1536x7168_S3x512x7168
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).2 main_v3 (Pipeline.mem_restRefs_of main_v3 (by decide) (by decide))).trans (tail3 m c),
      ((h.1 c).2 main_v4 (Pipeline.mem_restRefs_of main_v4 (by decide) (by decide))).trans (tail4 m c), h.2 c⟩)
    (θ_run_and (run_main m ρ) (unchanged m ρ))

end Cert.KernelIdeal.Run

end
-- ==== Proof.KernelProduct.lean ====
/- The row block of the kernel's scaled product, entry by entry, of the arguments. -/
module

public import proofs.«01_k».proof.Proof.KernelRow
public import proofs.«01_k».proof.Proof.KernelValue
public import Idealize.ShloMosaic.Lib.Claim

@[expose] public section

set_option maxRecDepth 16384

noncomputable section

namespace Cert.KernelIdeal.Run

open Cert.KernelIdeal Cert.KernelIdeal.Gen Cert.Quant
open Idealize.ShloMosaic Idealize.ShloMosaic.TcCoe

section Blocks

variable {F : FTy → Type} [FloatOps F]
variable (m : (ℓ : Loc nD τ sig) → Buf (Elt F) ℓ)

/-- Which block of each operand point `t` reads. -/
theorem index0 : ∀ t : Fin cfg0.N, win0_0.index t = ![t.val / 7, 0] := (by decide +kernel : ∀ t : Fin grid0.N, _)
theorem index1 : ∀ t : Fin cfg0.N, win0_1.index t = ![t.val / 7, 0] := (by decide +kernel : ∀ t : Fin grid0.N, _)
theorem index2 : ∀ t : Fin cfg0.N, win0_2.index t = ![0, t.val % 7] := (by decide +kernel : ∀ t : Fin grid0.N, _)
theorem index3 : ∀ t : Fin cfg0.N, win0_3.index t = ![0, t.val % 7] := (by decide +kernel : ∀ t : Fin grid0.N, _)

theorem block_row (t : Fin cfg0.N) (y : Fin 256) : t.val / 7 * 256 + y.val < 1536 := by
  have ht : t.val < 42 := Nat.lt_of_lt_of_eq t.isLt N_0
  omega

theorem block_col (t : Fin cfg0.N) (y : Fin 1024) : t.val % 7 * 1024 + y.val < 7168 := by omega

/-- The blocks of the four operands, read at an index. -/
theorem iblk0_apply (c : Dev nD) (t : Fin cfg0.N) (r : Fin 256) (k : Fin 3584) :
    (iblk m c 0 t : Vec F S256x3584 .fp8e4m3) (ix2 r k)
      = (V m c main_v0 : Vec F S1536x3584 .fp8e4m3) (ix2 ⟨t.val / 7 * 256 + r.val, block_row t r⟩ k) := by
  blk_simp [iblk]
  refine congrArg (V m c main_v0) (funext fun a => Fin.ext ?_)
  fin_cases a <;> blk_simp [index0] <;> rfl
theorem iblk1_apply (c : Dev nD) (t : Fin cfg0.N) (r : Fin 256) (k : Fin 1) :
    (iblk m c 1 t : Vec F S256x1 .f32) (ix2 r k)
      = (V m c main_v1 : Vec F S1536x1 .f32) (ix2 ⟨t.val / 7 * 256 + r.val, block_row t r⟩ k) := by
  blk_simp [iblk]
  refine congrArg (V m c main_v1) (funext fun a => Fin.ext ?_)
  fin_cases a <;> blk_simp [index1] <;> rfl
theorem iblk2_apply (c : Dev nD) (t : Fin cfg0.N) (k : Fin 3584) (l : Fin 1024) :
    (iblk m c 2 t : Vec F S3584x1024 .fp8e4m3) (ix2 k l)
      = (V m c main_arg2 : Vec F S3584x7168 .fp8e4m3) (ix2 k ⟨t.val % 7 * 1024 + l.val, block_col t l⟩) := by
  blk_simp [iblk]
  refine congrArg (V m c main_arg2) (funext fun a => Fin.ext ?_)
  fin_cases a <;> blk_simp [index2] <;> rfl
theorem iblk3_apply (c : Dev nD) (t : Fin cfg0.N) (k : Fin 1) (l : Fin 1024) :
    (iblk m c 3 t : Vec F S1x1024 .f32) (ix2 k l)
      = (V m c main_arg3 : Vec F S1x7168 .f32) (ix2 k ⟨t.val % 7 * 1024 + l.val, block_col t l⟩) := by
  blk_simp [iblk]
  refine congrArg (V m c main_arg3) (funext fun a => Fin.ext ?_)
  fin_cases a <;> blk_simp [index3] <;> rfl

/-- The reshaped operands, as the region finds them. -/
theorem V_v0 (c : Dev nD) : V m c main_v0
    = shapeCast S1536x3584 (m ((c.tc : Thread nD τ).loc main_arg0) : Vec F S3x512x3584 .fp8e4m3)
      shapeCasts_S3x512x3584_S1536x3584 := by
  simp only [V, V0, hostOps0, List.flatten_cons, List.flatten_nil, List.append_nil]
  after_reads_simp
  rfl
theorem V_v1 (c : Dev nD) : V m c main_v1
    = shapeCast S1536x1 (m ((c.tc : Thread nD τ).loc main_arg1) : Vec F S3x512x1 .f32)
      shapeCasts_S3x512x1_S1536x1 := by
  simp only [V, V0, hostOps0, List.flatten_cons, List.flatten_nil, List.append_nil]
  after_reads_simp
  rfl

end Blocks

variable (m : (ℓ : Loc nD τ sig) → Buf (Elt Ideal) ℓ)

/-- Row `r` and column `l` of a row block: row `256 * q + r` of the first operand times column `l` of the second, with the
    row's scale and the column's. -/
theorem rowBlock_apply (c : Dev nD) (q : ℕ) (hq : q < 6) (r : Fin 256) (l : Fin 7168) (R : Fin 1536)
    (hR : R.val = q * 256 + r.val) :
    rowBlock m c q (ix2 r l)
      = prodOf (V m c main_v0 : Vec Ideal S1536x3584 .fp8e4m3) (V m c main_arg2 : Vec Ideal S3584x7168 .fp8e4m3)
        (V m c main_v1 : Vec Ideal S1536x1 .f32) (V m c main_arg3 : Vec Ideal S1x7168 .f32) R l := by
  have hp : (pt (7 * q + l.val / 1024)).val = 7 * q + l.val / 1024 := by
    show (7 * q + l.val / 1024) % 42 = _
    omega
  have eR : (⟨(pt (7 * q + l.val / 1024)).val / 7 * 256 + r.val, block_row _ r⟩ : Fin 1536) = R := Fin.ext (by
    show (pt (7 * q + l.val / 1024)).val / 7 * 256 + r.val = R.val
    rw [hp, hR]; omega)
  have eL : (⟨(pt (7 * q + l.val / 1024)).val % 7 * 1024 + l.val % 1024,
      block_col _ ⟨l.val % 1024, Nat.mod_lt _ (by decide)⟩⟩ : Fin 7168) = l := Fin.ext (by
    show (pt (7 * q + l.val / 1024)).val % 7 * 1024 + l.val % 1024 = l.val
    rw [hp]; omega)
  show tile m c (pt (7 * q + l.val / 1024)) (ix2 r ⟨l.val % 1024, Nat.mod_lt _ (by decide)⟩) = _
  unfold tile
  refine (tile_apply (iblk m c 0 _) (iblk m c 2 _) (iblk m c 1 _) (iblk m c 3 _) _).trans ?_
  refine prodOf_congr (fun k => (iblk0_apply m c _ r k).trans ?_) (fun k => (iblk2_apply m c _ k _).trans ?_)
    ((iblk1_apply m c _ r 0).trans ?_) ((iblk3_apply m c _ 0 _).trans ?_)
  · exact congrArg (fun z => (V m c main_v0 : Vec Ideal S1536x3584 .fp8e4m3) (ix2 z k)) eR
  · exact congrArg (fun z => (V m c main_arg2 : Vec Ideal S3584x7168 .fp8e4m3) (ix2 k z)) eL
  · exact congrArg (fun z => (V m c main_v1 : Vec Ideal S1536x1 .f32) (ix2 z 0)) eR
  · exact congrArg (fun z => (V m c main_arg3 : Vec Ideal S1x7168 .f32) (ix2 0 z)) eL

end Cert.KernelIdeal.Run

end
-- ==== Proof.ReferenceValue.lean ====
/- The reference run's results, as functions of the argument arrays: the scaled product, one exponent per row, and the
   scales and the codes read off them. -/
module

public import proofs.«01_k».proof.Proof.Gen.ReferenceIdeal.Frame
public import proofs.«01_k».proof.Proof.Gen.ReferenceIdeal.Skeleton
public import Idealize.ShloMosaic.Lib.Claim
public import Idealize.ShloMosaic.Lib.Pipeline.ValueKit.Geometry
public import Idealize.ShloMosaic.Lib.StableHlo.RunRead
public import Idealize.ShloMosaic.Lib.ValueIdxCore

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reshaped operands, as the region finds them. -/
theorem V_v0 (c : Dev nD) : V m c main_v0
    = shapeCast S1536x3584 (m ((c.tc : Thread nD τ).loc main_arg0) : Vec F S3x512x3584 .fp8e4m3)
      shapeCasts_S3x512x3584_S1536x3584 := by
  simp only [V, V0, hostOps0, List.flatten_cons, List.flatten_nil, List.append_nil]
  after_reads_simp
  rfl
theorem V_v1 (c : Dev nD) : V m c main_v1
    = shapeCast S1536x1 (m ((c.tc : Thread nD τ).loc main_arg1) : Vec F S3x512x1 .f32)
      shapeCasts_S3x512x1_S1536x1 := by
  simp only [V, V0, hostOps0, List.flatten_cons, List.flatten_nil, List.append_nil]
  after_reads_simp
  rfl

/-- The scaled product of the operands as the region finds them. -/
def product (c : Dev nD) : Vec F S1536x7168 .f32 :=
  k0_pay3 (V m c main_v0) (V m c main_arg2) (V m c main_v1) (V m c main_arg3)

/-- The exponent of each row of the scaled product. -/
def rowExp (c : Dev nD) : IVec S1536x1 32 :=
  k0_pay4 (V m c main_v0) (V m c main_arg2) (V m c main_v1) (V m c main_arg3)

/-- The array of scales. -/
def scaleArr (c : Dev nD) : Vec F S1536x1 .f32 := k0_pay1 (F := F) (rowExp m c) 4294967170#32

/-- The array of codes. -/
def codesArr (c : Dev nD) : Vec F S1536x7168 .fp8e4m3 := k0_pay2 (product m c) (rowExp m c)

/-- Every operand's block is the whole operand. -/
theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)

/-- The block of the first operand is the operand, -/
theorem iblk0 (c : Dev nD) (t : Fin cfg0.N) : iblk m c 0 t = V m c main_v0 := by
  funext y
  blk_simp [iblk]
  refine congrArg (V m c main_v0) (funext fun a => Fin.ext ?_)
  fin_cases a <;> blk_simp [index0] <;> rfl
/-- of the second, -/
theorem iblk1 (c : Dev nD) (t : Fin cfg0.N) : iblk m c 1 t = V m c main_v1 := by
  funext y
  blk_simp [iblk]
  refine congrArg (V m c main_v1) (funext fun a => Fin.ext ?_)
  fin_cases a <;> blk_simp [index1] <;> rfl
/-- of the third, -/
theorem iblk2 (c : Dev nD) (t : Fin cfg0.N) : iblk m c 2 t = V m c main_arg2 := by
  funext y
  blk_simp [iblk]
  refine congrArg (V m c main_arg2) (funext fun a => Fin.ext ?_)
  fin_cases a <;> blk_simp [index2] <;> rfl
/-- of the fourth. -/
theorem iblk3 (c : Dev nD) (t : Fin cfg0.N) : iblk m c 3 t = V m c main_arg3 := by
  funext y
  blk_simp [iblk]
  refine congrArg (V m c main_arg3) (funext fun a => Fin.ext ?_)
  fin_cases a <;> blk_simp [index3] <;> rfl

/-- What the body stores as scales, of any operands. -/
theorem out4_eq (x0 : Vec F S1536x3584 .fp8e4m3) (x1 : Vec F S1536x1 .f32) (x2 : Vec F S3584x7168 .fp8e4m3)
    (x3 : Vec F S1x7168 .f32) : out0_4 x0 x1 x2 x3 = k0_pay1 (F := F) (k0_pay4 x0 x2 x1 x3) 4294967170#32 := by
  have z : (![0, 0] : Fin 2 → ℕ) = fun _ => 0 := by decide
  unfold out0_4 k0_pay5
  rw [View.canon_unit_zero (S := S1536x1) z, View.ld_unit_zero (S := S1536x3584) z, View.ld_unit_zero (S := S3584x7168) z,
    View.ld_unit_zero (S := S1536x1) z, View.ld_unit_zero (S := S1x7168) z]

/-- What the body stores as codes, of any operands. -/
theorem out5_eq (x0 : Vec F S1536x3584 .fp8e4m3) (x1 : Vec F S1536x1 .f32) (x2 : Vec F S3584x7168 .fp8e4m3)
    (x3 : Vec F S1x7168 .f32) : out0_5 x0 x1 x2 x3 = k0_pay2 (k0_pay3 x0 x2 x1 x3) (k0_pay4 x0 x2 x1 x3) := by
  have z : (![0, 0] : Fin 2 → ℕ) = fun _ => 0 := by decide
  unfold out0_5 k0_pay5
  rw [View.canon_unit_zero (S := S1536x7168) z, View.ld_unit_zero (S := S1536x3584) z,
    View.ld_unit_zero (S := S3584x7168) z, View.ld_unit_zero (S := S1536x1) z, View.ld_unit_zero (S := S1x7168) z]

/-- After the run the array of scales is `scaleArr`. -/
theorem arr4 (c : Dev nD) : (dats m 0 c).arrAt 4 cfg0.N = scaleArr m c := by
  refine (dats m 0 c).arrAt_eq_of_covers 4 _ (by decide +kernel) fun t hf y => ?_
  have h : (win0_4.blk t).view.emb y = y := funext fun a => Fin.ext (by
    fin_cases a <;> blk_simp [index4] <;> rfl)
  blk_simp
  rw [after0_4, iblk0, iblk1, iblk2, iblk3, out4_eq]
  exact congrArg (scaleArr m c) h.symm

/-- After the run the array of codes is `codesArr`. -/
theorem arr5 (c : Dev nD) : (dats m 0 c).arrAt 5 cfg0.N = codesArr m c := by
  refine (dats m 0 c).arrAt_eq_of_covers 5 _ (by decide +kernel) fun t hf y => ?_
  have h : (win0_5.blk t).view.emb y = y := funext fun a => Fin.ext (by
    fin_cases a <;> blk_simp [index5] <;> rfl)
  blk_simp
  rw [after0_5, iblk0, iblk1, iblk2, iblk3, out5_eq]
  exact congrArg (codesArr m c) h.symm

/-- The first result: the array of scales, reshaped. -/
theorem tail3 (c : Dev nD) : Pipeline.afterTail₀ cfgs (dats m) 0 (V0 m) [hostOps1] c main_v3
    = shapeCast S3x512x1 (scaleArr m c) shapeCasts_S1536x1_S3x512x1 := by
  unfold Pipeline.afterTail₀
  simp only [List.flatten_cons, List.flatten_nil, List.append_nil]
  after_reads_simp
  refine congrArg (fun x : Vec F S1536x1 .f32 => shapeCast S3x512x1 x shapeCasts_S1536x1_S3x512x1) ?_
  exact (Pipeline.withArrays_arr (cfgs 0).spec winFacts0.arr_inj c (V0 m c) _ (4 : Fin 6)).trans (arr4 m c)

/-- The second result: the array of codes, reshaped. -/
theorem tail4 (c : Dev nD) : Pipeline.afterTail₀ cfgs (dats m) 0 (V0 m) [hostOps1] c main_v4
    = shapeCast S3x512x7168 (codesArr m c) shapeCasts_S1536x7168_S3x512x7168 := by
  unfold Pipeline.afterTail₀
  simp only [List.flatten_cons, List.flatten_nil, List.append_nil]
  after_reads_simp
  refine congrArg (fun x : Vec F S1536x7168 .fp8e4m3 => shapeCast S3x512x7168 x shapeCasts_S1536x7168_S3x512x7168) ?_
  exact (Pipeline.withArrays_arr (cfgs 0).spec winFacts0.arr_inj c (V0 m c) _ (5 : Fin 6)).trans (arr5 m c)

/-- The run of the program: the two results are the reshaped arrays, the arguments end unchanged. -/
theorem run_values : θ_run defs (onTc (τ := τ) (main (F := F))) ⟨m, fun _ => 0, ρ⟩ (fun r => ∀ c : Dev nD,
      r.2.mem ((c.tc : Thread nD τ).loc main_v3) = shapeCast S3x512x1 (scaleArr m c) shapeCasts_S1536x1_S3x512x1
      ∧ r.2.mem ((c.tc : Thread nD τ).loc main_v4)
        = shapeCast S3x512x7168 (codesArr m c) shapeCasts_S1536x7168_S3x512x7168
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).2 main_v3 (Pipeline.mem_restRefs_of main_v3 (by decide) (by decide))).trans (tail3 m c),
      ((h.1 c).2 main_v4 (Pipeline.mem_restRefs_of main_v4 (by decide) (by decide))).trans (tail4 m c), h.2 c⟩)
    (θ_run_and (run_main m ρ) (unchanged m ρ))

end Cert.ReferenceIdeal.Run

end
-- ==== Proof.ReferenceRow.lean ====
/- The reference's exponents at a row: the row's largest magnitude and the count of the powers its scale reaches. -/
module

public import proofs.«01_k».proof.Proof.Gen.ReferenceIdeal.Skeleton
public import proofs.«01_k».proof.Proof.Exponent
public import proofs.«01_k».proof.Proof.Product
public import Idealize.ShloMosaic.Lib.Pointwise

@[expose] public section

set_option maxRecDepth 16384

noncomputable section

namespace Cert.ReferenceIdeal.Run

open Cert.ReferenceIdeal Cert.ReferenceIdeal.Gen Cert.Quant
open Idealize.ShloMosaic

/-- The largest magnitude of each row. -/
def rowMax (Y : FVec Ideal S1536x7168 .f32) : FVec Ideal S1536x1 .f32 :=
  shapeCast S1536x1 (multiReduction .maximumf [1] S1536 (absf Y) 0xFF800000#32 reduces_S1536x7168_S1536 (.inl rfl) rfl)
    shapeCasts_S1536_S1536x1

/-- The 254 normal powers of two. -/
def powers : FVec Ideal S1x254 .f32 :=
  exp2 (sitofp .f32 (subi (iota .tc S1x254 32 [1] iota_S1x254_d1_w32) (broadcast S1x254 126#32)))

/-- Which powers each row's value reaches. -/
def reached (v : FVec Ideal S1536x1 .f32) : IVec S1536x254 32 :=
  extui 32 (cmpf .oge (broadcastTo S1536x254 v broadcasts_S1536x1_S1536x254)
    (broadcastTo S1536x254 powers broadcasts_S1x254_S1536x254)) natLt_1_32

/-- How many powers each row's value reaches. -/
def rowCount (v : FVec Ideal S1536x1 .f32) : IVec S1536x1 32 :=
  shapeCast S1536x1 (multiReductionI .add [1] S1536 (reached v) 0#32 reduces_S1536x254_S1536 rfl) shapeCasts_S1536_S1536x1

/-- The largest magnitude of a row, by its columns. -/
theorem rowMax_apply (Y : FVec Ideal S1536x7168 .f32) (j : S1536x1.Idx) :
    rowMax Y j = Finset.univ.fold max (Ideal.ofBits .f32 0xFF800000#32)
      fun x : Fin 7168 => FloatOps.absf (Y (ix2 (j 0) x)) := by
  unfold rowMax
  pointwise

/-- The `k`-th normal power of two. -/
theorem powers_apply (y : S1x254.Idx) : powers y = power ((y 1).val + 1) := by
  have h : ∀ k : Fin 254, (IntOp.subi (BitVec.ofNat 32 k.val) 126#32).toInt = ((k.val + 1 : ℕ) : ℤ) - 127 := by
    decide +kernel
  have e : powers y = Ideal.exp2 ((((IntOp.subi (BitVec.ofNat 32 (y 1).val) 126#32).toInt : ℝ) : EReal)) := by
    unfold powers
    pointwise
    rfl
  rw [e]
  have hy : (y 1).val < 254 := (y 1).isLt
  exact exp2_int _ _ (h (y 1)) (by omega) (by omega)

/-- Whether a row's value reaches a power, as a word. -/
theorem reached_apply (v : FVec Ideal S1536x1 .f32) (i : S1536x254.Idx) :
    (reached v i).toNat = if power ((i 1).val + 1) ≤ v (ix2 (i 0) 0) then 1 else 0 := by
  have e : reached v i = BitVec.setWidth 32 (BitVec.ofBool (decide (powers (ix2 0 (i 1)) ≤ v (ix2 (i 0) 0)))) := by
    unfold reached
    pointwise
  rw [e, powers_apply]
  by_cases h : power ((i 1).val + 1) ≤ v (ix2 (i 0) 0)
  · rw [if_pos h, decide_eq_true (show power (((ix2 0 (i 1) : S1x254.Idx) 1).val + 1) ≤ v (ix2 (i 0) 0) from h)]; rfl
  · rw [if_neg h, decide_eq_false (show ¬ power (((ix2 0 (i 1) : S1x254.Idx) 1).val + 1) ≤ v (ix2 (i 0) 0) from h)]; rfl

/-- A fold of the words' sum has the sum of their values, inside the word. -/
theorem fold_addi {n : ℕ} (f : Fin n → BitVec 32) (g : Fin n → ℕ) (h : ∀ k, (f k).toNat = g k)
    (hs : ∑ k, g k < 2 ^ 32) : Finset.univ.fold IntOp.addi 0#32 f = BitVec.ofNat 32 (∑ k, g k) := by
  have e : Finset.univ.fold IntOp.addi 0#32 f = ∑ k, f k := rfl
  have hg : ∑ k, (f k).toNat = ∑ k, g k := Finset.sum_congr rfl fun k _ => h k
  rw [e, ← hg]
  rw [← hg] at hs
  rw [← WordSum.toNat_sum _ _ hs, BitVec.ofNat_toNat, BitVec.setWidth_eq]

/-- The count of a row. -/
theorem rowCount_apply (v : FVec Ideal S1536x1 .f32) (j : S1536x1.Idx) : rowCount v j = count (v (ix2 (j 0) 0)) := by
  have e : rowCount v j = Finset.univ.fold IntOp.addi 0#32 fun k : Fin 254 => reached v (ix2 (j 0) k) := by
    unfold rowCount
    pointwise
  rw [e, fold_addi _ (fun k : Fin 254 => if power (k.val + 1) ≤ v (ix2 (j 0) 0) then 1 else 0) fun k => reached_apply v _]
  · rw [Finset.sum_boole]
    rfl
  · rw [Finset.sum_boole]
    exact lt_of_le_of_lt (card_le _) (by norm_num)

/-- The exponents of rows, of their largest magnitudes, their unrounded scales and their counts. -/
def expVec (a v : FVec Ideal S1536x1 .f32) (n : IVec S1536x1 32) : IVec S1536x1 32 :=
  select (cmpf .oeq a (broadcast S1536x1 (Scalar.ofBits .f32 0x00000000#32))) (broadcast S1536x1 0#32)
    (select (ori (cmpi .eq n (broadcast S1536x1 0#32))
        (cmpf .oeq v (broadcast S1536x1 (Scalar.ofBits .f32 0x7F800000#32))))
      (broadcast S1536x1 0#32) (subi n (broadcast S1536x1 126#32)))

theorem expVec_apply (a v : FVec Ideal S1536x1 .f32) (n : IVec S1536x1 32) (j : S1536x1.Idx) :
    expVec a v n j = countExp (a j) (v j) (n j) := rfl

/-- The unrounded scales of rows of given largest magnitudes. -/
def rawScale (a : FVec Ideal S1536x1 .f32) : FVec Ideal S1536x1 .f32 :=
  mulf a (broadcast S1536x1 (Scalar.ofBits .f32 0x3B124925#32))

theorem rawScale_apply (a : FVec Ideal S1536x1 .f32) (j : S1536x1.Idx) :
    rawScale a j = a j * Ideal.ofBits .f32 0x3B124925#32 := rfl

theorem exp_eq (v0 : Vec Ideal S1536x3584 .fp8e4m3) (v2 : Vec Ideal S3584x7168 .fp8e4m3) (v4 : Vec Ideal S1536x1 .f32)
    (v8 : Vec Ideal S1x7168 .f32) :
    k0_pay4 v0 v2 v4 v8
      = expVec (rowMax (k0_pay3 v0 v2 v4 v8)) (rawScale (rowMax (k0_pay3 v0 v2 v4 v8)))
        (rowCount (rawScale (rowMax (k0_pay3 v0 v2 v4 v8)))) := by
  unfold k0_pay4 expVec rowCount reached powers rawScale rowMax
  rfl

/-- The exponent of a row. -/
theorem exp_apply (v0 : Vec Ideal S1536x3584 .fp8e4m3) (v2 : Vec Ideal S3584x7168 .fp8e4m3) (v4 : Vec Ideal S1536x1 .f32)
    (v8 : Vec Ideal S1x7168 .f32) (j : S1536x1.Idx) :
    k0_pay4 v0 v2 v4 v8 j
      = countExp (rowMax (k0_pay3 v0 v2 v4 v8) j) (rowMax (k0_pay3 v0 v2 v4 v8) j * Ideal.ofBits .f32 0x3B124925#32)
        (count (rowMax (k0_pay3 v0 v2 v4 v8) j * Ideal.ofBits .f32 0x3B124925#32)) := by
  have hj : (ix2 (j 0) 0 : S1536x1.Idx) = j := funext fun a => Fin.ext (by
    fin_cases a
    · rfl
    · show 0 = (j 1).val
      have : (j 1).val < 1 := (j 1).isLt
      omega)
  rw [exp_eq, expVec_apply, rowCount_apply, hj, rawScale_apply]

/-- The scaled product at a row and a column. -/
theorem product_apply (v0 : Vec Ideal S1536x3584 .fp8e4m3) (v2 : Vec Ideal S3584x7168 .fp8e4m3)
    (v4 : Vec Ideal S1536x1 .f32) (v8 : Vec Ideal S1x7168 .f32) (j : S1536x7168.Idx) :
    k0_pay3 v0 v2 v4 v8 j = prodOf v0 v2 v4 v8 (j 0) (j 1) := by
  unfold k0_pay3 prodOf
  pointwise

/-- The scale of a row, of any exponents. -/
theorem scale_apply (e : IVec S1536x1 32) (j : S1536x1.Idx) :
    k0_pay1 (F := Ideal) e 4294967170#32 j = expPower (e j) := rfl

/-- The codes of a product, of any powers. -/
def codesVec (Y : FVec Ideal S1536x7168 .f32) (p : FVec Ideal S1536x1 .f32) : FVec Ideal S1536x7168 .fp8e4m3 :=
  truncf .fp8e4m3 (minimumf (broadcast S1536x7168 (Scalar.ofBits .f32 0x43E00000#32))
    (maximumf (broadcast S1536x7168 (Scalar.ofBits .f32 0xC3E00000#32))
      (mulf Y (broadcastTo S1536x7168 p broadcasts_S1536x1_S1536x7168)))) bitsLt_fp8e4m3_f32

theorem codesVec_apply (Y : FVec Ideal S1536x7168 .f32) (p : FVec Ideal S1536x1 .f32) (j : S1536x7168.Idx) :
    codesVec Y p j = clip (Y j * p (ix2 (j 0) 0)) := by
  unfold codesVec clip
  pointwise

theorem codes_eq (Y : FVec Ideal S1536x7168 .f32) (e : IVec S1536x1 32) :
    k0_pay2 Y e = codesVec Y (k0_pay1 (subi (broadcast S1536x1 0#32) e) 4294967170#32) := by
  unfold k0_pay2 codesVec k0_pay1
  rfl

/-- The codes at a row and a column, of any product and exponents. -/
theorem codes_apply (Y : FVec Ideal S1536x7168 .f32) (e : IVec S1536x1 32) (j : S1536x7168.Idx) :
    k0_pay2 Y e j = clip (Y j * expPower (IntOp.subi 0#32 (e (ix2 (j 0) 0)))) := by
  rw [codes_eq, codesVec_apply, scale_apply]
  rfl

end Cert.ReferenceIdeal.Run

end
-- ==== Proof.Equation.lean ====
/- The equation: from equal arguments the kernel's arrays of scales and codes are the reference's, over the extended
   reals. -/
module

public import proofs.«01_k».proof.Proof.KernelProduct
public import proofs.«01_k».proof.Proof.ReferenceValue
public import proofs.«01_k».proof.Proof.ReferenceRow

@[expose] public section

set_option maxRecDepth 16384

noncomputable section

namespace Cert.Equation

open Cert.Quant
open Idealize.ShloMosaic Idealize.ShloMosaic.TcCoe

/-- A memory of the kernel's program, -/
abbrev KMem : Type := (ℓ : Loc Cert.KernelIdeal.nD Cert.KernelIdeal.τ Cert.KernelIdeal.sig) → Buf (Elt Ideal) ℓ
/-- and of the reference's. -/
abbrev RMem : Type := (ℓ : Loc Cert.ReferenceIdeal.nD Cert.ReferenceIdeal.τ Cert.ReferenceIdeal.sig) → Buf (Elt Ideal) ℓ

/-- The four arguments agree on device `c`. -/
def Agree (m : KMem) (m' : RMem) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

variable {m : KMem} {m' : RMem} {c : Dev Cert.KernelIdeal.nD}

/-- So the four operands of the two regions agree. -/
theorem operand0 (h : Agree m m' c) : (Cert.ReferenceIdeal.Gen.V m' c Cert.ReferenceIdeal.main_v0 : Vec Ideal ⟨2, ![1536, 3584]⟩ .fp8e4m3)
    = Cert.KernelIdeal.Gen.V m c Cert.KernelIdeal.main_v0 := by
  rw [Cert.ReferenceIdeal.Run.V_v0, Cert.KernelIdeal.Run.V_v0, h.1]
theorem operand1 (h : Agree m m' c) : (Cert.ReferenceIdeal.Gen.V m' c Cert.ReferenceIdeal.main_v1 : Vec Ideal ⟨2, ![1536, 1]⟩ .f32)
    = Cert.KernelIdeal.Gen.V m c Cert.KernelIdeal.main_v1 := by
  rw [Cert.ReferenceIdeal.Run.V_v1, Cert.KernelIdeal.Run.V_v1, h.2.1]
theorem operand2 (h : Agree m m' c) : (Cert.ReferenceIdeal.Gen.V m' c Cert.ReferenceIdeal.main_arg2 : Vec Ideal ⟨2, ![3584, 7168]⟩ .fp8e4m3)
    = Cert.KernelIdeal.Gen.V m c Cert.KernelIdeal.main_arg2 :=
  (Cert.ReferenceIdeal.Gen.V_main_arg2 m' c).trans (h.2.2.1.trans (Cert.KernelIdeal.Gen.V_main_arg2 m c).symm)
theorem operand3 (h : Agree m m' c) : (Cert.ReferenceIdeal.Gen.V m' c Cert.ReferenceIdeal.main_arg3 : Vec Ideal ⟨2, ![1, 7168]⟩ .f32)
    = Cert.KernelIdeal.Gen.V m c Cert.KernelIdeal.main_arg3 :=
  (Cert.ReferenceIdeal.Gen.V_main_arg3 m' c).trans (h.2.2.2.trans (Cert.KernelIdeal.Gen.V_main_arg3 m c).symm)

/-- Row `r` of row block `q` of the kernel's scaled product is row `256 * q + r` of the reference's. -/
theorem product_eq (h : Agree m m' c) (q : ℕ) (hq : q < 6) (r : Fin 256) (R : Fin 1536) (hR : R.val = q * 256 + r.val)
    (l : Fin 7168) :
    Cert.KernelIdeal.Run.rowBlock m c q (ix2 r l) = Cert.ReferenceIdeal.Run.product m' c (ix2 R l) := by
  rw [Cert.KernelIdeal.Run.rowBlock_apply m c q hq r l R hR]
  unfold Cert.ReferenceIdeal.Run.product
  refine Eq.trans ?_ (Cert.ReferenceIdeal.Run.product_apply _ _ _ _ _).symm
  exact prodOf_congr (fun k => congrFun (operand0 h).symm _) (fun k => congrFun (operand2 h).symm _)
    (congrFun (operand1 h).symm _) (congrFun (operand3 h).symm _)

/-- So their largest magnitudes are equal, -/
theorem max_eq (h : Agree m m' c) (q : ℕ) (hq : q < 6) (r : Fin 256) (R : Fin 1536) (hR : R.val = q * 256 + r.val) :
    Cert.KernelIdeal.Gen.k0_pay4 (Cert.KernelIdeal.Run.rowBlock m c q) (ix2 r 0)
      = Cert.ReferenceIdeal.Run.rowMax (Cert.ReferenceIdeal.Run.product m' c) (ix2 R 0) := by
  rw [Cert.KernelIdeal.Run.blockMax_apply, Cert.ReferenceIdeal.Run.rowMax_apply]
  refine congrArg (fun f => Finset.univ.fold max (Ideal.ofBits .f32 0xFF800000#32) f) (funext fun l => ?_)
  exact congrArg (FloatOps.absf (F := Ideal) (φ := .f32)) (product_eq h q hq r R hR l)

/-- and the powers of their exponents, -/
theorem scale_row (h : Agree m m' c) (q : ℕ) (hq : q < 6) (r : Fin 256) (R : Fin 1536) (hR : R.val = q * 256 + r.val) :
    shiftPower (Cert.KernelIdeal.Run.blockExp (Cert.KernelIdeal.Run.rowBlock m c q) (ix2 r 0))
      = expPower (Cert.ReferenceIdeal.Run.rowExp m' c (ix2 R 0)) := by
  rw [Cert.KernelIdeal.Run.blockExp_apply, max_eq h q hq r R hR]
  unfold Cert.ReferenceIdeal.Run.rowExp
  rw [Cert.ReferenceIdeal.Run.exp_apply]
  exact scale_eq _ _

/-- and the reciprocal powers. -/
theorem unscale_row (h : Agree m m' c) (q : ℕ) (hq : q < 6) (r : Fin 256) (R : Fin 1536) (hR : R.val = q * 256 + r.val) :
    shiftPower (IntOp.subi 0#32 (Cert.KernelIdeal.Run.blockExp (Cert.KernelIdeal.Run.rowBlock m c q) (ix2 r 0)))
      = expPower (IntOp.subi 0#32 (Cert.ReferenceIdeal.Run.rowExp m' c (ix2 R 0))) := by
  rw [Cert.KernelIdeal.Run.blockExp_apply, max_eq h q hq r R hR]
  unfold Cert.ReferenceIdeal.Run.rowExp
  rw [Cert.ReferenceIdeal.Run.exp_apply]
  exact unscale_eq _ _

/-- An index of a matrix is its two coordinates. -/
theorem ix_eq {a b : ℕ} (i : Fin a) (k : Fin b) : (ValueIdx.ix2 i k : (⟨2, ![a, b]⟩ : Shape).Idx) = ix2 i k :=
  funext fun d => by fin_cases d <;> rfl
theorem eta_eq {a b : ℕ} (j : (⟨2, ![a, b]⟩ : Shape).Idx) : j = ix2 (j 0) (j 1) :=
  funext fun d => by fin_cases d <;> rfl
theorem eta_col {a : ℕ} (j : (⟨2, ![a, 1]⟩ : Shape).Idx) : j = ix2 (j 0) 0 :=
  funext fun d => by
    fin_cases d
    · rfl
    · exact Subsingleton.elim (α := Fin 1) _ _

/-- The arrays of scales are equal. -/
theorem scales (h : Agree m m' c) : (Cert.KernelIdeal.Run.scaleArr m c : Vec Ideal ⟨2, ![1536, 1]⟩ .f32)
    = Cert.ReferenceIdeal.Run.scaleArr m' c := by
  funext j
  have hj : (j 0).val < 1536 := (j 0).isLt
  have hr : (j 0).val = (j 0).val / 256 * 256 + (j 0).val % 256 := by omega
  unfold Cert.KernelIdeal.Run.scaleArr Cert.ReferenceIdeal.Run.scaleArr
  rw [Cert.KernelIdeal.Run.blockScale_apply, Cert.ReferenceIdeal.Run.scale_apply]
  refine Eq.trans ?_ ((scale_row h ((j 0).val / 256) (by omega) ⟨(j 0).val % 256, Nat.mod_lt _ (by decide)⟩ (j 0) hr).trans
    (congrArg (fun z => expPower (Cert.ReferenceIdeal.Run.rowExp m' c z)) (eta_col j).symm))
  exact congrArg (fun z => shiftPower (Cert.KernelIdeal.Run.blockExp (Cert.KernelIdeal.Run.rowBlock m c ((j 0).val / 256)) z))
    (eta_col _)

/-- The arrays of codes are equal. -/
theorem codes (h : Agree m m' c) : (Cert.KernelIdeal.Run.codesArr m c : Vec Ideal ⟨2, ![1536, 7168]⟩ .fp8e4m3)
    = Cert.ReferenceIdeal.Run.codesArr m' c := by
  funext j
  have hj : (j 0).val < 1536 := (j 0).isLt
  have hr : (j 0).val = (j 0).val / 256 * 256 + (j 0).val % 256 := by omega
  unfold Cert.KernelIdeal.Run.codesArr Cert.ReferenceIdeal.Run.codesArr
  rw [Cert.KernelIdeal.Run.blockCodes_apply, Cert.ReferenceIdeal.Run.codes_apply]
  refine congrArg clip (congrArg₂ (fun x y : EReal => x * y) ?_ ?_)
  · refine (congrArg (Cert.KernelIdeal.Run.rowBlock m c ((j 0).val / 256)) (ix_eq _ _)).trans ?_
    refine (product_eq h ((j 0).val / 256) (by omega) ⟨(j 0).val % 256, Nat.mod_lt _ (by decide)⟩ (j 0) hr (j 1)).trans ?_
    exact congrArg (Cert.ReferenceIdeal.Run.product m' c) (eta_eq j).symm
  · exact unscale_row h ((j 0).val / 256) (by omega) ⟨(j 0).val % 256, Nat.mod_lt _ (by decide)⟩ (j 0) hr

end Cert.Equation

end
-- ==== Proof.KernelFrame.lean ====
/- The kernel's own program is the idealized one's, operation for operation, so the run proved for the idealized text, at
   any instance of the floats, is a run of the kernel. -/
module

public import proofs.«01_k».proof.Defs
public import proofs.«01_k».proof.Proof.Gen.Kernel
public import proofs.«01_k».proof.Proof.KernelRun

@[expose] public section

set_option maxRecDepth 16384

noncomputable section

namespace Cert.KernelFrame

open Idealize.ShloMosaic Idealize.ShloMosaic.TcCoe Idealize.SL.Sem

instance : Cert.Kernel.Facts := Cert.Kernel.Gen.facts
instance : Cert.KernelIdeal.Facts := Cert.KernelIdeal.Gen.facts

variable {F : FTy → Type} [FloatOps F]

/-- The two host programs are equal, -/
theorem main_eq : Cert.Kernel.main (F := F) = Cert.KernelIdeal.main (F := F) := rfl

/-- and the kernels' bodies, -/
theorem body_eq : @Cert.Kernel.cc0__body F _ _ = @Cert.KernelIdeal.cc0__body F _ _ := rfl

/-- and the tables of bodies, -/
theorem defs₀_eq : Cert.Kernel.defs₀ (F := F) = Cert.KernelIdeal.defs₀ (F := F) := by
  refine congrArg Defs.onTc (funext fun l => funext fun a => ?_)
  match l, a with
  | 0, (t, s) => rfl

/-- with the pipelines around them. -/
theorem defs_eq : Cert.Kernel.defs (F := F) = Cert.KernelIdeal.defs (F := F) :=
  congrArg (Pipeline.defs (Cert.KernelIdeal.pcfgs (F := F))) defs₀_eq

/-- The kernel runs, leaves its arguments unchanged and its counters at zero. -/
theorem frame : Cert.quiescent_Kernel := by
  intro m g _
  have h := Cert.KernelIdeal.Run.frame (F := Bits) m g
  rw [← defs_eq] at h
  exact h

end Cert.KernelFrame

end
-- ==== Proof.lean ====
/- The claim, assembled: the three programs run and leave their arguments and counters as the frames say, the idealized
   kernel is the kernel's own text, and the kernel's two results are the reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import proofs.«01_k».proof.Proof.KernelFrame
public import Idealize.ShloMosaic.Adequacy
public import Idealize.ShloMosaic.Init

@[expose] public section

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel's two results equal the reference's over the extended reals: the reshaped arrays of scales and codes. -/
theorem algebraic : Cert.algebraic_KernelIdeal_ReferenceIdeal := by
  intro m g m' g' _ h
  refine ⟨fun c => shapeCast Cert.KernelIdeal.S3x512x1 (Cert.KernelIdeal.Run.scaleArr m c)
      Cert.KernelIdeal.Gen.shapeCasts_S1536x1_S3x512x1,
    fun c => shapeCast Cert.KernelIdeal.S3x512x7168 (Cert.KernelIdeal.Run.codesArr m c)
      Cert.KernelIdeal.Gen.shapeCasts_S1536x7168_S3x512x7168, ?_, ?_⟩
  · exact Cert.KernelIdeal.Run.run_values m g
  · refine (θ_run _ _ _).mono (fun r hr c => ?_) (Cert.ReferenceIdeal.Run.run_values m' g')
    obtain ⟨h3, h4, ha⟩ := hr c
    refine ⟨h3.trans ?_, h4.trans ?_, ha⟩
    · rw [← Cert.Equation.scales (h c)]
    · rw [← Cert.Equation.codes (h c)]

/-- The whole claim. -/
theorem claim : Cert.Claim :=
  ⟨Cert.Kernel.Gen.facts, Cert.KernelIdeal.Gen.facts, Cert.ReferenceIdeal.Gen.facts,
    Cert.KernelFrame.frame, fun m g _ => Cert.KernelIdeal.Run.frame m g,
    fun m g _ => Cert.ReferenceIdeal.Gen.frame m g, trivial, algebraic⟩

end Cert.Proof

end
